-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x6144x7424 : Shape := ⟨3, ![2, 6144, 7424]⟩
abbrev S2x6144x1 : Shape := ⟨3, ![2, 6144, 1]⟩
abbrev S27648x7424 : Shape := ⟨2, ![27648, 7424]⟩
abbrev S27648 : Shape := ⟨1, ![27648]⟩
abbrev S12288x7424 : Shape := ⟨2, ![12288, 7424]⟩
abbrev S12288x1 : Shape := ⟨2, ![12288, 1]⟩
abbrev S1x27648 : Shape := ⟨2, ![1, 27648]⟩
abbrev S12288x27648 : Shape := ⟨2, ![12288, 27648]⟩
abbrev S384x7424 : Shape := ⟨2, ![384, 7424]⟩
abbrev S384x1 : Shape := ⟨2, ![384, 1]⟩
abbrev S1024x7424 : Shape := ⟨2, ![1024, 7424]⟩
abbrev S1x1024 : Shape := ⟨2, ![1, 1024]⟩
abbrev S384x1024 : Shape := ⟨2, ![384, 1024]⟩
abbrev S384x27648 : Shape := ⟨2, ![384, 27648]⟩
abbrev S384x128 : Shape := ⟨2, ![384, 128]⟩
abbrev S384 : Shape := ⟨1, ![384]⟩
abbrev S1x256 : Shape := ⟨2, ![1, 256]⟩
abbrev S384x256 : Shape := ⟨2, ![384, 256]⟩

abbrev nBuf : Space → Nat
  | .hbm => 9
  | .vmem => 15
  | .smem => 0
  | _ => 0

abbrev bufTy : (tb : Table) → Fin (tcTables nBuf tb) → BufTy
  | .hbm, ⟨0, _⟩ => ⟨S2x6144x7424, .fp8e4m3⟩
  | .hbm, ⟨1, _⟩ => ⟨S2x6144x1, .f32⟩
  | .hbm, ⟨2, _⟩ => ⟨S27648x7424, .fp8e4m3⟩
  | .hbm, ⟨3, _⟩ => ⟨S27648, .f32⟩
  | .hbm, ⟨4, _⟩ => ⟨S12288x7424, .fp8e4m3⟩
  | .hbm, ⟨5, _⟩ => ⟨S12288x1, .f32⟩
  | .hbm, ⟨6, _⟩ => ⟨S1x27648, .f32⟩
  | .hbm, ⟨7, _⟩ => ⟨S12288x1, .f32⟩
  | .hbm, ⟨8, _⟩ => ⟨S12288x27648, .fp8e4m3⟩
  | .local _ .vmem, ⟨0, _⟩ => ⟨S384x7424, .fp8e4m3⟩
  | .local _ .vmem, ⟨1, _⟩ => ⟨S384x7424, .fp8e4m3⟩
  | .local _ .vmem, ⟨2, _⟩ => ⟨S384x1, .f32⟩
  | .local _ .vmem, ⟨3, _⟩ => ⟨S384x1, .f32⟩
  | .local _ .vmem, ⟨4, _⟩ => ⟨S1024x7424, .fp8e4m3⟩
  | .local _ .vmem, ⟨5, _⟩ => ⟨S1024x7424, .fp8e4m3⟩
  | .local _ .vmem, ⟨6, _⟩ => ⟨S1x1024, .f32⟩
  | .local _ .vmem, ⟨7, _⟩ => ⟨S1x1024, .f32⟩
  | .local _ .vmem, ⟨8, _⟩ => ⟨S384x1, .f32⟩
  | .local _ .vmem, ⟨9, _⟩ => ⟨S384x1, .f32⟩
  | .local _ .vmem, ⟨10, _⟩ => ⟨S384x1024, .fp8e4m3⟩
  | .local _ .vmem, ⟨11, _⟩ => ⟨S384x1024, .fp8e4m3⟩
  | .local _ .vmem, ⟨12, _⟩ => ⟨S384x27648, .f32⟩
  | .local _ .vmem, ⟨13, _⟩ => ⟨S384x128, .f32⟩
  | .local _ .vmem, ⟨14, _⟩ => ⟨S384x1, .f32⟩
  | _, _ => ⟨S2x6144x7424, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![33, 27], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let c0_14 : Index := 0#32
  let arg1 : BitVec 32 := BitVec.ofNat 32 (i 1).val
  let c1024_i32 : BitVec 32 := 1024#32
  let v28 : BitVec 32 := Scalar.muli arg1 c1024_i32
  let v29 : Index := Scalar.indexCast v28
  ![0, v29.toNat]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c32_i32 : BitVec 32 := 32#32
  let v4 : BitVec 1 := Scalar.cmpi .slt arg0 c32_i32
  let v5 : BitVec 1 := Scalar.andi v3 v4
  let v6 : BitVec 32 := Scalar.extui v5
  let c0_i32_2 : BitVec 32 := 0#32
  let v7 : BitVec 1 := Scalar.cmpi .ne v6 c0_i32_2
  v7

def k0_off2 (i : grid0.Coords) : Fin 2 → Nat :=
  let c0 : Index := 0#32
  let arg1 : BitVec 32 := BitVec.ofNat 32 (i 1).val
  let c1024_i32 : BitVec 32 := 1024#32
  let v16 : BitVec 32 := Scalar.muli arg1 c1024_i32
  let v17 : Index := Scalar.indexCast v16
  ![0, v17.toNat]
def k0_cond3 (i : grid0.Coords) : BitVec 1 :=
  let arg0 : BitVec 32 := BitVec.ofNat 32 (i 0).val
  let c32_i32_3 : BitVec 32 := 32#32
  let v8 : BitVec 1 := Scalar.cmpi .eq arg0 c32_i32_3
  let v9 : BitVec 32 := Scalar.extui v8
  let c0_i32_4 : BitVec 32 := 0#32
  let v10 : BitVec 1 := Scalar.cmpi .ne v9 c0_i32_4
  v10

def k0_off3 (i : grid0.Coords) : Fin 2 → Nat :=
  let c0 : Index := 0#32
  let arg1 : BitVec 32 := BitVec.ofNat 32 (i 1).val
  let c1024_i32 : BitVec 32 := 1024#32
  let v16 : BitVec 32 := Scalar.muli arg1 c1024_i32
  let v17 : Index := Scalar.indexCast v16
  ![0, v17.toNat]
def k0_cond4 (i : grid0.Coords) : BitVec 1 :=
  let arg1 : BitVec 32 := BitVec.ofNat 32 (i 1).val
  let c26_i32 : BitVec 32 := 26#32
  let v11 : BitVec 1 := Scalar.cmpi .eq arg1 c26_i32
  let arg0 : BitVec 32 := BitVec.ofNat 32 (i 0).val
  let c32_i32_5 : BitVec 32 := 32#32
  let v12 : BitVec 1 := Scalar.cmpi .slt arg0 c32_i32_5
  let v13 : BitVec 1 := Scalar.andi v11 v12
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 1 := Scalar.cmpi .eq arg0 c32_i32
  let c26_i32 : BitVec 32 := 26#32
  let v1 : BitVec 32 := Scalar.select v0 c26_i32 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 1 := Scalar.cmpi .eq arg0 c32_i32
  let c26_i32 : BitVec 32 := 26#32
  let v1 : BitVec 32 := Scalar.select v0 c26_i32 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

abbrev stage0_0 : Fin 2 → Memref sig .tc .vmem S384x7424 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S384x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x7424 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S384x1024 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2x6144x7424 : Shape := ⟨3, ![2, 6144, 7424]⟩
abbrev S2x6144x1 : Shape := ⟨3, ![2, 6144, 1]⟩
abbrev S27648x7424 : Shape := ⟨2, ![27648, 7424]⟩
abbrev S27648 : Shape := ⟨1, ![27648]⟩
abbrev S12288x7424 : Shape := ⟨2, ![12288, 7424]⟩
abbrev S12288x1 : Shape := ⟨2, ![12288, 1]⟩
abbrev S1x27648 : Shape := ⟨2, ![1, 27648]⟩
abbrev S12288x27648 : Shape := ⟨2, ![12288, 27648]⟩
abbrev S12288 : Shape := ⟨1, ![12288]⟩

abbrev nBuf : Space → Nat
  | .hbm => 9
  | .vmem => 6
  | .smem => 0
  | _ => 0

abbrev bufTy : (tb : Table) → Fin (tcTables nBuf tb) → BufTy
  | .hbm, ⟨0, _⟩ => ⟨S2x6144x7424, .fp8e4m3⟩
  | .hbm, ⟨1, _⟩ => ⟨S2x6144x1, .f32⟩
  | .hbm, ⟨2, _⟩ => ⟨S27648x7424, .fp8e4m3⟩
  | .hbm, ⟨3, _⟩ => ⟨S27648, .f32⟩
  | .hbm, ⟨4, _⟩ => ⟨S12288x7424, .fp8e4m3⟩
  | .hbm, ⟨5, _⟩ => ⟨S12288x1, .f32⟩
  | .hbm, ⟨6, _⟩ => ⟨S1x27648, .f32⟩
  | .hbm, ⟨7, _⟩ => ⟨S12288x1, .f32⟩
  | .hbm, ⟨8, _⟩ => ⟨S12288x27648, .fp8e4m3⟩
  | .local _ .vmem, ⟨0, _⟩ => ⟨S12288x7424, .fp8e4m3⟩
  | .local _ .vmem, ⟨1, _⟩ => ⟨S12288x1, .f32⟩
  | .local _ .vmem, ⟨2, _⟩ => ⟨S27648x7424, .fp8e4m3⟩
  | .local _ .vmem, ⟨3, _⟩ => ⟨S1x27648, .f32⟩
  | .local _ .vmem, ⟨4, _⟩ => ⟨S12288x1, .f32⟩
  | .local _ .vmem, ⟨5, _⟩ => ⟨S12288x27648, .fp8e4m3⟩
  | _, _ => ⟨S2x6144x7424, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S12288x7424 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S27648x7424 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x27648 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x27648 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.K.Body.lean ====
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import Idealize.ShloMosaic.Lib.Pipeline.FrameBody
public import Idealize.ShloMosaic.Lib.Pipeline.TableIdle
public import Idealize.ShloMosaic.Lib.Pipeline.Value
public import Idealize.ShloMosaic.Lib.VecWindow
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra. -/
local notation "𝕄" => MT nD τ sig Unit (Elt F) ℕ (UR sig nD τ) ℕ

/-! ## The values one grid point computes -/

/-- The largest absolute value of the eight lane groups of one 384 x 1024 block, lane by lane, in the order the kernel
    takes it. -/
def laneMax (y : FVec F S384x1024 .f32) : FVec F S384x128 .f32 :=
  maximumf (maximumf (maximumf (maximumf (maximumf (maximumf (maximumf
    (absf (extractStridedSlice S384x128 ![0, 0] y slices_S384x1024_o0_0_S384x128))
    (absf (extractStridedSlice S384x128 ![0, 128] y slices_S384x1024_o0_128_S384x128)))
    (absf (extractStridedSlice S384x128 ![0, 256] y slices_S384x1024_o0_256_S384x128)))
    (absf (extractStridedSlice S384x128 ![0, 384] y slices_S384x1024_o0_384_S384x128)))
    (absf (extractStridedSlice S384x128 ![0, 512] y slices_S384x1024_o0_512_S384x128)))
    (absf (extractStridedSlice S384x128 ![0, 640] y slices_S384x1024_o0_640_S384x128)))
    (absf (extractStridedSlice S384x128 ![0, 768] y slices_S384x1024_o0_768_S384x128)))
    (absf (extractStridedSlice S384x128 ![0, 896] y slices_S384x1024_o0_896_S384x128))

/-- The running lane maximum after block `j`: restarted at the first block of a row block. -/
def amaxStep (j : ℕ) (y : FVec F S384x1024 .f32) (a : FVec F S384x128 .f32) : FVec F S384x128 .f32 :=
  Scalar.select (Scalar.cmpi .eq (BitVec.ofNat 32 j) 0#32) (laneMax y) (maximumf a (laneMax y))

/-- The reciprocal scale the last block of a row block leaves, from the running lane maximum. -/
def invOf (a : FVec F S384x128 .f32) : FVec F S384x1 .f32 := k0_pay4 (k0_pay13 a) k0_pay15

/-- Where block `j` of the kept row block starts. -/
abbrev yoff (j : ℕ) : Fin 2 → ℕ := ![0, j * 1024]

/-- Every block of the kept row block lies inside it. -/
theorem yinb (j : Fin 27) : ∀ a : Fin 2, yoff j.val a + S384x1024.size a ≤ S384x27648.size a := by
  intro a
  have := j.isLt
  fin_cases a
  · show 0 + 384 ≤ 384; omega
  · show j.val * 1024 + 1024 ≤ 27648; omega

/-- The kernel's offset words name block `i 1`. -/
theorem off_eq (i : grid0.Coords) : k0_off2 i = yoff (i 1).val := by
  have h : ∀ j : Fin 27, (Scalar.indexCast (Scalar.muli (BitVec.ofNat 32 j.val) 1024#32)).toNat = j.val * 1024 := by decide
  exact congrArg (fun n : ℕ => (![0, n] : Fin 2 → ℕ)) (h (i 1))

/-- Block `j` of the kept row block. -/
abbrev yblk (x : Vec F S384x27648 .f32) (j : Fin 27) : Vec F S384x1024 .f32 := VecWindow.window x (yoff j.val) S384x1024.size (yinb j)

/-- The kept row block with block `j` replaced. -/
abbrev yput (x : Vec F S384x27648 .f32) (j : Fin 27) (y : Vec F S384x1024 .f32) : Vec F S384x27648 .f32 :=
  VecWindow.put x (yoff j.val) S384x1024.size y

theorem pay1_pay7 (i : grid0.Coords) (x : Vec F S384x7424 .fp8e4m3) (w : Vec F S1024x7424 .fp8e4m3) (xs : Vec F S384x1 .f32)
    (ws : Vec F S1x1024 .f32) (a : Vec F S384x128 .f32) :
    k0_pay1 (k0_pay7 (BitVec.ofNat 32 (i 1).val) x w xs ws a) = amaxStep (i 1).val (k0_pay5 x w xs ws) a := by
  unfold k0_pay1
  rw [shapeCast_self]
  rfl

theorem pay6_eq (x : Vec F S384x7424 .fp8e4m3) (w : Vec F S1024x7424 .fp8e4m3) (xs : Vec F S384x1 .f32) (ws : Vec F S1x1024 .f32) :
    k0_pay6 x w xs ws = k0_pay5 x w xs ws := by
  unfold k0_pay6
  rw [shapeCast_self]

theorem pay10_eq (x : Vec F S384x7424 .fp8e4m3) (w : Vec F S1024x7424 .fp8e4m3) (xs : Vec F S384x1 .f32) (ws : Vec F S1x1024 .f32) :
    k0_pay10 x w xs ws = k0_pay5 x w xs ws := by
  unfold k0_pay10
  rw [shapeCast_self]
  rfl

theorem pay2_eq (i : grid0.Coords) (x : Vec F S384x7424 .fp8e4m3) (w : Vec F S1024x7424 .fp8e4m3) (xs : Vec F S384x1 .f32)
    (ws : Vec F S1x1024 .f32) (a : Vec F S384x128 .f32) :
    k0_pay2 i (k0_pay9 x w xs ws) (k0_pay11 x w xs ws) (k0_pay12 x w xs ws) a = amaxStep (i 1).val (k0_pay5 x w xs ws) a := by
  unfold k0_pay2; dsimp only
  rw [shapeCast_self]
  rfl

/-! ## The body at one grid point, case by case

Each theorem runs the body over whole buffers holding the values `X2 ... X10` and states what each buffer holds afterwards. -/

/-- First row block, not its last block: the block of `y` is computed and kept, the lane maximum updated. -/
theorem runA (c : Dev nD) (i : grid0.Coords)
    (h1 : k0_cond1 i = 1#1) (h2 : ¬ k0_cond2 i = 1#1) (h3 : ¬ k0_cond3 i = 1#1) (h4 : ¬ k0_cond4 i = 1#1)
    (arg2 : Memref sig .tc .vmem S384x7424 .fp8e4m3) (harg2 : arg2.IsWhole)
    (arg3 : Memref sig .tc .vmem S384x1 .f32) (harg3 : arg3.IsWhole)
    (arg4 : Memref sig .tc .vmem S1024x7424 .fp8e4m3) (harg4 : arg4.IsWhole)
    (arg5 : Memref sig .tc .vmem S1x1024 .f32) (harg5 : arg5.IsWhole)
    (arg6 : Memref sig .tc .vmem S384x1 .f32) (harg6 : arg6.IsWhole)
    (arg7 : Memref sig .tc .vmem S384x1024 .fp8e4m3) (harg7 : arg7.IsWhole)
    (arg8 : Memref sig .tc .vmem S384x27648 .f32) (harg8 : arg8.IsWhole)
    (arg9 : Memref sig .tc .vmem S384x128 .f32) (harg9 : arg9.IsWhole)
    (arg10 : Memref sig .tc .vmem S384x1 .f32) (harg10 : arg10.IsWhole)
    (X2 : Vec F S384x7424 .fp8e4m3) (X3 : Vec F S384x1 .f32) (X4 : Vec F S1024x7424 .fp8e4m3) (X5 : Vec F S1x1024 .f32) (X6 : Vec F S384x1 .f32) (X7 : Vec F S384x1024 .fp8e4m3) (X8 : Vec F S384x27648 .f32) (X9 : Vec F S384x128 .f32) (X10 : Vec F S384x1 .f32)
    (K : PUnit → sProp 𝕄) :
    iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10
      ∗ ((owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare (yput X8 (i 1) (k0_pay5 X2 X4 X3 X5)) ∗ owns (c : Thread nD τ) arg9 fullShare (amaxStep (i 1).val (k0_pay5 X2 X4 X3 X5) X9) ∗ owns (c : Thread nD τ) arg10 fullShare X10) -∗ K ⟨⟩))
    ⊢ wp frame (wpE (defs₀ (F := F)) Variants.none c none) Set.univ
        (cc0__body i arg2 harg2 arg3 harg3 arg4 harg4 arg5 harg5 arg6 harg6 arg7 harg7 arg8 harg8 arg9 harg9 arg10 harg10) K := by
  simp only [owns_eq_rep]
  simp only [cc0__body_eq_skeleton]; unfold cc0__body_skel
  iintro ⟨H2, H3, H4, H5, H6, H7, H8, H9, H10, Hk⟩
  sl_exec (disch := first | sl_exact h1 | sl_exact h2 | sl_exact h3 | sl_exact h4)
  sl_step
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · rewrite [← owns_eq_rep]; unfold owns; iexists _; isplitr; swap; · iexact H8
    ipureintro
    refine (View.read_writes_rep_unit _ _ _ _ (off_eq i)).trans ?_
    rw [View.readAt_rep_full arg2.view, View.readAt_rep_full arg4.view, View.readAt_rep_full arg3.view, View.readAt_rep_full arg5.view]
    exact congrArg (yput X8 (i 1)) (pay6_eq X2 X4 X3 X5)
  isplitl [H9]
  · rewrite [← owns_eq_rep]; unfold owns; iexists _; isplitr; swap; · iexact H9
    ipureintro
    refine (View.read_writes_full _ _ _ _ _).trans ?_
    try delta runA.sl.r_4
    try delta runA.sl.r_3
    try delta runA.sl.r_2
    try delta runA.sl.r_1
    try delta runA.sl.r
    try delta runA.sl.v16
    try delta runA.sl.H9_1
    try delta runA.sl.r_4
    try delta runA.sl.r_3
    try delta runA.sl.r_2
    try delta runA.sl.r_1
    try delta runA.sl.r
    rw [View.readAt_rep_full arg2.view, View.readAt_rep_full arg4.view, View.readAt_rep_full arg3.view, View.readAt_rep_full arg5.view, View.readAt_rep_full arg9.view]
    exact pay1_pay7 i X2 X4 X3 X5 X9
  · iexact H10

/-- First row block, last block: as `runA`, then the scale and the reciprocal scale are written. -/
theorem runB (c : Dev nD) (i : grid0.Coords)
    (h1 : k0_cond1 i = 1#1) (h2 : ¬ k0_cond2 i = 1#1) (h3 : ¬ k0_cond3 i = 1#1) (h4 : k0_cond4 i = 1#1)
    (arg2 : Memref sig .tc .vmem S384x7424 .fp8e4m3) (harg2 : arg2.IsWhole)
    (arg3 : Memref sig .tc .vmem S384x1 .f32) (harg3 : arg3.IsWhole)
    (arg4 : Memref sig .tc .vmem S1024x7424 .fp8e4m3) (harg4 : arg4.IsWhole)
    (arg5 : Memref sig .tc .vmem S1x1024 .f32) (harg5 : arg5.IsWhole)
    (arg6 : Memref sig .tc .vmem S384x1 .f32) (harg6 : arg6.IsWhole)
    (arg7 : Memref sig .tc .vmem S384x1024 .fp8e4m3) (harg7 : arg7.IsWhole)
    (arg8 : Memref sig .tc .vmem S384x27648 .f32) (harg8 : arg8.IsWhole)
    (arg9 : Memref sig .tc .vmem S384x128 .f32) (harg9 : arg9.IsWhole)
    (arg10 : Memref sig .tc .vmem S384x1 .f32) (harg10 : arg10.IsWhole)
    (X2 : Vec F S384x7424 .fp8e4m3) (X3 : Vec F S384x1 .f32) (X4 : Vec F S1024x7424 .fp8e4m3) (X5 : Vec F S1x1024 .f32) (X6 : Vec F S384x1 .f32) (X7 : Vec F S384x1024 .fp8e4m3) (X8 : Vec F S384x27648 .f32) (X9 : Vec F S384x128 .f32) (X10 : Vec F S384x1 .f32)
    (K : PUnit → sProp 𝕄) :
    iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10
      ∗ ((owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare (k0_pay14 (amaxStep (i 1).val (k0_pay5 X2 X4 X3 X5) X9)) ∗ owns (c : Thread nD τ) arg7 fullShare X7 ∗ owns (c : Thread nD τ) arg8 fullShare (yput X8 (i 1) (k0_pay5 X2 X4 X3 X5)) ∗ owns (c : Thread nD τ) arg9 fullShare (amaxStep (i 1).val (k0_pay5 X2 X4 X3 X5) X9) ∗ owns (c : Thread nD τ) arg10 fullShare (invOf (amaxStep (i 1).val (k0_pay5 X2 X4 X3 X5) X9))) -∗ K ⟨⟩))
    ⊢ wp frame (wpE (defs₀ (F := F)) Variants.none c none) Set.univ
        (cc0__body i arg2 harg2 arg3 harg3 arg4 harg4 arg5 harg5 arg6 harg6 arg7 harg7 arg8 harg8 arg9 harg9 arg10 harg10) K := by
  simp only [owns_eq_rep]
  simp only [cc0__body_eq_skeleton]; unfold cc0__body_skel
  iintro ⟨H2, H3, H4, H5, H6, H7, H8, H9, H10, Hk⟩
  sl_exec (disch := first | sl_exact h1 | sl_exact h2 | sl_exact h3 | sl_exact h4)
  sl_step
  iapply Hk
  isplitl [H2]
  · iexact H2
  isplitl [H3]
  · iexact H3
  isplitl [H4]
  · iexact H4
  isplitl [H5]
  · iexact H5
  isplitl [H6]
  · rewrite [← owns_eq_rep]; unfold owns; iexists _; isplitr; swap; · iexact H6
    ipureintro
    refine (View.read_writes_full _ _ _ _ _).trans ?_
    try delta runB.sl.r_4
    try delta runB.sl.r_3
    try delta runB.sl.r_2
    try delta runB.sl.r_1
    try delta runB.sl.r
    try delta runB.sl.v16
    try delta runB.sl.H9_1
    try delta runB.sl.r_4
    try delta runB.sl.r_3
    try delta runB.sl.r_2
    try delta runB.sl.r_1
    try delta runB.sl.r
    rw [View.readCov_full, View.readAt_rep_full arg2.view, View.readAt_rep_full arg4.view, View.readAt_rep_full arg3.view, View.readAt_rep_full arg5.view, View.readAt_rep_full arg9.view]
    exact congrArg k0_pay14 (pay1_pay7 i X2 X4 X3 X5 X9)
  isplitl [H7]
  · iexact H7
  isplitl [H8]
  · rewrite [← owns_eq_rep]; unfold owns; iexists _; isplitr; swap; · iexact H8
    ipureintro
    refine (View.read_writes_rep_unit _ _ _ _ (off_eq i)).trans ?_
    rw [View.readAt_rep_full arg2.view, View.readAt_rep_full arg4.view, View.readAt_rep_full arg3.view, View.readAt_rep_full arg5.view]
    exact congrArg (yput X8 (i 1)) (pay6_eq X2 X4 X3 X5)
  isplitl [H9]
  · rewrite [← owns_eq_rep]; unfold owns; iexists _; isplitr; swap; · iexact H9
    ipureintro
    refine (View.read_writes_full _ _ _ _ _).trans ?_
    try delta runB.sl.r_4
    try delta runB.sl.r_3
    try delta runB.sl.r_2
    try delta runB.sl.r_1
    try delta runB.sl.r
    try delta runB.sl.v16
    try delta runB.sl.H9_1
    try delta runB.sl.r_4
    try delta runB.sl.r_3
    try delta runB.sl.r_2
    try delta runB.sl.r_1
    try delta runB.sl.r
    rw [View.readAt_rep_full arg2.view, View.readAt_rep_full arg4.view, View.readAt_rep_full arg3.view, View.readAt_rep_full arg5.view, View.readAt_rep_full arg9.view]
    exact pay1_pay7 i X2 X4 X3 X5 X9
  · rewrite [← owns_eq_rep]; unfold owns; iexists _; isplitr; swap; · iexact H10
    ipureintro
    refine (View.read_writes_full _ _ _ _ _).trans ?_
    try delta runB.sl.r_4
    try delta runB.sl.r_3
    try delta runB.sl.r_2
    try delta runB.sl.r_1
    try delta runB.sl.r
    try delta runB.sl.v16
    try delta runB.sl.H9_1
    try delta runB.sl.r_4
    try delta runB.sl.r_3
    try delta runB.sl.r_2
    try delta runB.sl.r_1
    try delta runB.sl.r
    rw [View.readCov_full, View.readAt_rep_full arg2.view, View.readAt_rep_full arg4.view, View.readAt_rep_full arg3.view, View.readAt_rep_full arg5.view, View.readAt_rep_full arg9.view]
    exact congrArg invOf (pay1_pay7 i X2 X4 X3 X5 X9)

/-- A middle row block, not its last block: the kept block is quantised, then replaced; the lane maximum updated. -/
theorem runC (c : Dev nD) (i : grid0.Coords)
    (h1 : ¬ k0_cond1 i = 1#1) (h2 : k0_cond2 i = 1#1) (h3 : ¬ k0_cond3 i = 1#1) (h4 : ¬ k0_cond4 i = 1#1)
    (arg2 : Memref sig .tc .vmem S384x7424 .fp8e4m3) (harg2 : arg2.IsWhole)
    (arg3 : Memref sig .tc .vmem S384x1 .f32) (harg3 : arg3.IsWhole)
    (arg4 : Memref sig .tc .vmem S1024x7424 .fp8e4m3) (harg4 : arg4.IsWhole)
    (arg5 : Memref sig .tc .vmem S1x1024 .f32) (harg5 : arg5.IsWhole)
    (arg6 : Memref sig .tc .vmem S384x1 .f32) (harg6 : arg6.IsWhole)
    (arg7 : Memref sig .tc .vmem S384x1024 .fp8e4m3) (harg7 : arg7.IsWhole)
    (arg8 : Memref sig .tc .vmem S384x27648 .f32) (harg8 : arg8.IsWhole)
    (arg9 : Memref sig .tc .vmem S384x128 .f32) (harg9 : arg9.IsWhole)
    (arg10 : Memref sig .tc .vmem S384x1 .f32) (harg10 : arg10.IsWhole)
    (X2 : Vec F S384x7424 .fp8e4m3) (X3 : Vec F S384x1 .f32) (X4 : Vec F S1024x7424 .fp8e4m3) (X5 : Vec F S1x1024 .f32) (X6 : Vec F S384x1 .f32) (X7 : Vec F S384x1024 .fp8e4m3) (X8 : Vec F S384x27648 .f32) (X9 : Vec F S384x128 .f32) (X10 : Vec F S384x1 .f32)
    (K : PUnit → sProp 𝕄) :
    iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10
      ∗ ((owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare (k0_pay3 (yblk X8 (i 1)) X10) ∗ owns (c : Thread nD τ) arg8 fullShare (yput X8 (i 1) (k0_pay5 X2 X4 X3 X5)) ∗ owns (c : Thread nD τ) arg9 fullShare (amaxStep (i 1).val (k0_pay5 X2 X4 X3 X5) X9) ∗ owns (c : Thread nD τ) arg10 fullShare X10) -∗ K ⟨⟩))
    ⊢ wp frame (wpE (defs₀ (F := F)) Variants.none c none) Set.univ
        (cc0__body i arg2 harg2 arg3 harg3 arg4 harg4 arg5 harg5 arg6 harg6 arg7 harg7 arg8 harg8 arg9 harg9 arg10 harg10) K := by
  simp only [owns_eq_rep]
  simp only [cc0__body_eq_skeleton]; unfold cc0__body_skel
  iintro ⟨H2, H3, H4, H5, H6, H7, H8, H9, H10, Hk⟩
  sl_exec (disch := first | sl_exact h1 | sl_exact h2 | sl_exact h3 | sl_exact h4)
  sl_step
  iapply Hk
  isplitl [H2]
  · iexact H2
  isplitl [H3]
  · iexact H3
  isplitl [H4]
  · iexact H4
  isplitl [H5]
  · iexact H5
  isplitl [H6]
  · iexact H6
  isplitl [H7]
  · rewrite [← owns_eq_rep]; unfold owns; iexists _; isplitr; swap; · iexact H7
    ipureintro
    refine (View.read_writes_full _ _ _ _ _).trans ?_
    rw [View.readAt_rep_full arg10.view]
    exact congrArg (fun v => k0_pay3 v X10) (View.readAt_rep_unit arg8.view X8 _ (off_eq i) (yinb (i 1)))
  isplitl [H8]
  · rewrite [← owns_eq_rep]; unfold owns; iexists _; isplitr; swap; · iexact H8
    ipureintro
    refine (View.read_writes_rep_unit _ _ _ _ (off_eq i)).trans ?_
    rw [View.readAt_rep_full arg2.view, View.readAt_rep_full arg4.view, View.readAt_rep_full arg3.view, View.readAt_rep_full arg5.view]
    exact congrArg (yput X8 (i 1)) (pay10_eq X2 X4 X3 X5)
  isplitl [H9]
  · rewrite [← owns_eq_rep]; unfold owns; iexists _; isplitr; swap; · iexact H9
    ipureintro
    refine (View.read_writes_full _ _ _ _ _).trans ?_
    try delta runC.sl.r_4
    try delta runC.sl.r_3
    try delta runC.sl.r_2
    try delta runC.sl.r_1
    try delta runC.sl.r
    try delta runC.sl.v16
    try delta runC.sl.H9_1
    try delta runC.sl.r_4
    try delta runC.sl.r_3
    try delta runC.sl.r_2
    try delta runC.sl.r_1
    try delta runC.sl.r
    rw [View.readAt_rep_full arg2.view, View.readAt_rep_full arg4.view, View.readAt_rep_full arg3.view, View.readAt_rep_full arg5.view, View.readAt_rep_full arg9.view]
    exact pay2_eq i X2 X4 X3 X5 X9
  · iexact H10

/-- A middle row block, last block: as `runC`, then the scale and the reciprocal scale are written. -/
theorem runD (c : Dev nD) (i : grid0.Coords)
    (h1 : ¬ k0_cond1 i = 1#1) (h2 : k0_cond2 i = 1#1) (h3 : ¬ k0_cond3 i = 1#1) (h4 : k0_cond4 i = 1#1)
    (arg2 : Memref sig .tc .vmem S384x7424 .fp8e4m3) (harg2 : arg2.IsWhole)
    (arg3 : Memref sig .tc .vmem S384x1 .f32) (harg3 : arg3.IsWhole)
    (arg4 : Memref sig .tc .vmem S1024x7424 .fp8e4m3) (harg4 : arg4.IsWhole)
    (arg5 : Memref sig .tc .vmem S1x1024 .f32) (harg5 : arg5.IsWhole)
    (arg6 : Memref sig .tc .vmem S384x1 .f32) (harg6 : arg6.IsWhole)
    (arg7 : Memref sig .tc .vmem S384x1024 .fp8e4m3) (harg7 : arg7.IsWhole)
    (arg8 : Memref sig .tc .vmem S384x27648 .f32) (harg8 : arg8.IsWhole)
    (arg9 : Memref sig .tc .vmem S384x128 .f32) (harg9 : arg9.IsWhole)
    (arg10 : Memref sig .tc .vmem S384x1 .f32) (harg10 : arg10.IsWhole)
    (X2 : Vec F S384x7424 .fp8e4m3) (X3 : Vec F S384x1 .f32) (X4 : Vec F S1024x7424 .fp8e4m3) (X5 : Vec F S1x1024 .f32) (X6 : Vec F S384x1 .f32) (X7 : Vec F S384x1024 .fp8e4m3) (X8 : Vec F S384x27648 .f32) (X9 : Vec F S384x128 .f32) (X10 : Vec F S384x1 .f32)
    (K : PUnit → sProp 𝕄) :
    iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10
      ∗ ((owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare (k0_pay14 (amaxStep (i 1).val (k0_pay5 X2 X4 X3 X5) X9)) ∗ owns (c : Thread nD τ) arg7 fullShare (k0_pay3 (yblk X8 (i 1)) X10) ∗ owns (c : Thread nD τ) arg8 fullShare (yput X8 (i 1) (k0_pay5 X2 X4 X3 X5)) ∗ owns (c : Thread nD τ) arg9 fullShare (amaxStep (i 1).val (k0_pay5 X2 X4 X3 X5) X9) ∗ owns (c : Thread nD τ) arg10 fullShare (invOf (amaxStep (i 1).val (k0_pay5 X2 X4 X3 X5) X9))) -∗ K ⟨⟩))
    ⊢ wp frame (wpE (defs₀ (F := F)) Variants.none c none) Set.univ
        (cc0__body i arg2 harg2 arg3 harg3 arg4 harg4 arg5 harg5 arg6 harg6 arg7 harg7 arg8 harg8 arg9 harg9 arg10 harg10) K := by
  simp only [owns_eq_rep]
  simp only [cc0__body_eq_skeleton]; unfold cc0__body_skel
  iintro ⟨H2, H3, H4, H5, H6, H7, H8, H9, H10, Hk⟩
  sl_exec (disch := first | sl_exact h1 | sl_exact h2 | sl_exact h3 | sl_exact h4)
  sl_step
  iapply Hk
  isplitl [H2]
  · iexact H2
  isplitl [H3]
  · iexact H3
  isplitl [H4]
  · iexact H4
  isplitl [H5]
  · iexact H5
  isplitl [H6]
  · rewrite [← owns_eq_rep]; unfold owns; iexists _; isplitr; swap; · iexact H6
    ipureintro
    refine (View.read_writes_full _ _ _ _ _).trans ?_
    try delta runD.sl.r_4
    try delta runD.sl.r_3
    try delta runD.sl.r_2
    try delta runD.sl.r_1
    try delta runD.sl.r
    try delta runD.sl.v16
    try delta runD.sl.H9_1
    try delta runD.sl.r_4
    try delta runD.sl.r_3
    try delta runD.sl.r_2
    try delta runD.sl.r_1
    try delta runD.sl.r
    rw [View.readCov_full, View.readAt_rep_full arg2.view, View.readAt_rep_full arg4.view, View.readAt_rep_full arg3.view, View.readAt_rep_full arg5.view, View.readAt_rep_full arg9.view]
    exact congrArg k0_pay14 (pay2_eq i X2 X4 X3 X5 X9)
  isplitl [H7]
  · rewrite [← owns_eq_rep]; unfold owns; iexists _; isplitr; swap; · iexact H7
    ipureintro
    refine (View.read_writes_full _ _ _ _ _).trans ?_
    rw [View.readAt_rep_full arg10.view]
    exact congrArg (fun v => k0_pay3 v X10) (View.readAt_rep_unit arg8.view X8 _ (off_eq i) (yinb (i 1)))
  isplitl [H8]
  · rewrite [← owns_eq_rep]; unfold owns; iexists _; isplitr; swap; · iexact H8
    ipureintro
    refine (View.read_writes_rep_unit _ _ _ _ (off_eq i)).trans ?_
    rw [View.readAt_rep_full arg2.view, View.readAt_rep_full arg4.view, View.readAt_rep_full arg3.view, View.readAt_rep_full arg5.view]
    exact congrArg (yput X8 (i 1)) (pay10_eq X2 X4 X3 X5)
  isplitl [H9]
  · rewrite [← owns_eq_rep]; unfold owns; iexists _; isplitr; swap; · iexact H9
    ipureintro
    refine (View.read_writes_full _ _ _ _ _).trans ?_
    try delta runD.sl.r_4
    try delta runD.sl.r_3
    try delta runD.sl.r_2
    try delta runD.sl.r_1
    try delta runD.sl.r
    try delta runD.sl.v16
    try delta runD.sl.H9_1
    try delta runD.sl.r_4
    try delta runD.sl.r_3
    try delta runD.sl.r_2
    try delta runD.sl.r_1
    try delta runD.sl.r
    rw [View.readAt_rep_full arg2.view, View.readAt_rep_full arg4.view, View.readAt_rep_full arg3.view, View.readAt_rep_full arg5.view, View.readAt_rep_full arg9.view]
    exact pay2_eq i X2 X4 X3 X5 X9
  · rewrite [← owns_eq_rep]; unfold owns; iexists _; isplitr; swap; · iexact H10
    ipureintro
    refine (View.read_writes_full _ _ _ _ _).trans ?_
    try delta runD.sl.r_4
    try delta runD.sl.r_3
    try delta runD.sl.r_2
    try delta runD.sl.r_1
    try delta runD.sl.r
    try delta runD.sl.v16
    try delta runD.sl.H9_1
    try delta runD.sl.r_4
    try delta runD.sl.r_3
    try delta runD.sl.r_2
    try delta runD.sl.r_1
    try delta runD.sl.r
    rw [View.readCov_full, View.readAt_rep_full arg2.view, View.readAt_rep_full arg4.view, View.readAt_rep_full arg3.view, View.readAt_rep_full arg5.view, View.readAt_rep_full arg9.view]
    exact congrArg invOf (pay2_eq i X2 X4 X3 X5 X9)

/-- After the last row block: the kept block is quantised. -/
theorem runE (c : Dev nD) (i : grid0.Coords)
    (h1 : ¬ k0_cond1 i = 1#1) (h2 : ¬ k0_cond2 i = 1#1) (h3 : k0_cond3 i = 1#1) (h4 : ¬ k0_cond4 i = 1#1)
    (arg2 : Memref sig .tc .vmem S384x7424 .fp8e4m3) (harg2 : arg2.IsWhole)
    (arg3 : Memref sig .tc .vmem S384x1 .f32) (harg3 : arg3.IsWhole)
    (arg4 : Memref sig .tc .vmem S1024x7424 .fp8e4m3) (harg4 : arg4.IsWhole)
    (arg5 : Memref sig .tc .vmem S1x1024 .f32) (harg5 : arg5.IsWhole)
    (arg6 : Memref sig .tc .vmem S384x1 .f32) (harg6 : arg6.IsWhole)
    (arg7 : Memref sig .tc .vmem S384x1024 .fp8e4m3) (harg7 : arg7.IsWhole)
    (arg8 : Memref sig .tc .vmem S384x27648 .f32) (harg8 : arg8.IsWhole)
    (arg9 : Memref sig .tc .vmem S384x128 .f32) (harg9 : arg9.IsWhole)
    (arg10 : Memref sig .tc .vmem S384x1 .f32) (harg10 : arg10.IsWhole)
    (X2 : Vec F S384x7424 .fp8e4m3) (X3 : Vec F S384x1 .f32) (X4 : Vec F S1024x7424 .fp8e4m3) (X5 : Vec F S1x1024 .f32) (X6 : Vec F S384x1 .f32) (X7 : Vec F S384x1024 .fp8e4m3) (X8 : Vec F S384x27648 .f32) (X9 : Vec F S384x128 .f32) (X10 : Vec F S384x1 .f32)
    (K : PUnit → sProp 𝕄) :
    iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10
      ∗ ((owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare (k0_pay3 (yblk X8 (i 1)) X10) ∗ owns (c : Thread nD τ) arg8 fullShare X8 ∗ owns (c : Thread nD τ) arg9 fullShare X9 ∗ owns (c : Thread nD τ) arg10 fullShare X10) -∗ K ⟨⟩))
    ⊢ wp frame (wpE (defs₀ (F := F)) Variants.none c none) Set.univ
        (cc0__body i arg2 harg2 arg3 harg3 arg4 harg4 arg5 harg5 arg6 harg6 arg7 harg7 arg8 harg8 arg9 harg9 arg10 harg10) K := by
  simp only [owns_eq_rep]
  simp only [cc0__body_eq_skeleton]; unfold cc0__body_skel
  iintro ⟨H2, H3, H4, H5, H6, H7, H8, H9, H10, Hk⟩
  sl_exec (disch := first | sl_exact h1 | sl_exact h2 | sl_exact h3 | sl_exact h4)
  sl_step
  iapply Hk
  isplitl [H2]
  · iexact H2
  isplitl [H3]
  · iexact H3
  isplitl [H4]
  · iexact H4
  isplitl [H5]
  · iexact H5
  isplitl [H6]
  · iexact H6
  isplitl [H7]
  · rewrite [← owns_eq_rep]; unfold owns; iexists _; isplitr; swap; · iexact H7
    ipureintro
    refine (View.read_writes_full _ _ _ _ _).trans ?_
    rw [View.readAt_rep_full arg10.view]
    exact congrArg (fun v => k0_pay3 v X10) (View.readAt_rep_unit arg8.view X8 _ (off_eq i) (yinb (i 1)))
  isplitl [H8]
  · iexact H8
  isplitl [H9]
  · iexact H9
  · iexact H10

end Cert.Kernel.Hand

end
-- ==== Proof.K.Sched.lean ====
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import Idealize.ShloMosaic.Lib.Pipeline.FrameBody
public import Idealize.ShloMosaic.Lib.Pipeline.TableIdle
public import Idealize.ShloMosaic.Lib.Pipeline.Value
public import Idealize.ShloMosaic.Lib.VecWindow
public import Idealize.ShloMosaic.Lib.Tactic
public import proofs.«01_k».proof.Proof.K.Body

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra. -/
local notation "𝕄" => MT nD τ sig Unit (Elt F) ℕ (UR sig nD τ) ℕ

/-! ## The grid: point `t` is row block `t / 27`, column block `t % 27` -/

theorem lt_N (t : Fin cfg0.N) : t.val < 891 := lt_of_lt_of_eq t.isLt N_0

theorem row_eq (t : Fin cfg0.N) : (grid0.coords t 0).val = t.val / 27 := by
  rw [Pipeline.Grid.coords_val (G := grid0) t 0 (S := 27) (B := 33) (by decide) rfl]
  have := lt_N t; omega

theorem col_eq (t : Fin cfg0.N) : (grid0.coords t 1).val = t.val % 27 := by
  rw [Pipeline.Grid.coords_val (G := grid0) t 1 (S := 1) (B := 27) (by decide) rfl]
  omega

/-- The column block of point `t`. -/
def col (n : ℕ) : Fin 27 := ⟨n % 27, Nat.mod_lt _ (by omega)⟩

theorem coords_col (t : Fin cfg0.N) : grid0.coords t 1 = col t.val := Fin.ext (col_eq t)

theorem cond1_iff (i : grid0.Coords) : k0_cond1 i = 1#1 ↔ (i 0).val = 0 := by
  have h : ∀ a : Fin 33, Scalar.cmpi .ne (Scalar.extui (Scalar.cmpi .eq (BitVec.ofNat 32 a.val) 0#32) : BitVec 32) 0#32 = 1#1 ↔ a.val = 0 := by decide
  exact h (i 0)

theorem cond2_iff (i : grid0.Coords) : k0_cond2 i = 1#1 ↔ 0 < (i 0).val ∧ (i 0).val < 32 := by
  have h : ∀ a : Fin 33, Scalar.cmpi .ne (Scalar.extui (Scalar.andi (Scalar.cmpi .sgt (BitVec.ofNat 32 a.val) 0#32) (Scalar.cmpi .slt (BitVec.ofNat 32 a.val) 32#32)) : BitVec 32) 0#32 = 1#1
      ↔ 0 < a.val ∧ a.val < 32 := by decide
  exact h (i 0)

theorem cond3_iff (i : grid0.Coords) : k0_cond3 i = 1#1 ↔ (i 0).val = 32 := by
  have h : ∀ a : Fin 33, Scalar.cmpi .ne (Scalar.extui (Scalar.cmpi .eq (BitVec.ofNat 32 a.val) 32#32) : BitVec 32) 0#32 = 1#1 ↔ a.val = 32 := by decide
  exact h (i 0)

theorem cond4_iff (i : grid0.Coords) : k0_cond4 i = 1#1 ↔ (i 1).val = 26 ∧ (i 0).val < 32 := by
  have h : ∀ a : Fin 33, ∀ b : Fin 27, Scalar.cmpi .ne (Scalar.extui (Scalar.andi (Scalar.cmpi .eq (BitVec.ofNat 32 b.val) 26#32) (Scalar.cmpi .slt (BitVec.ofNat 32 a.val) 32#32)) : BitVec 32) 0#32 = 1#1
      ↔ b.val = 26 ∧ a.val < 32 := by decide
  exact h (i 0) (i 1)

/-- The first result's window is written at the last block of a row block, of which there are 32. -/
theorem idle4_false (t : Fin cfg0.N) (h : t.val % 27 = 26 ∧ t.val / 27 < 32) : idle0 4 (grid0.coords t) = false := by
  have e : k0_cond4 (grid0.coords t) = 1#1 := (cond4_iff _).2 (by rw [row_eq, col_eq]; exact h)
  show (!(k0_cond4 (grid0.coords t) == 1#1)) = false
  rw [e]; rfl

theorem idle4_true (t : Fin cfg0.N) (h : ¬ (t.val % 27 = 26 ∧ t.val / 27 < 32)) : idle0 4 (grid0.coords t) = true := by
  have e : ¬ k0_cond4 (grid0.coords t) = 1#1 := fun e => h (by have := (cond4_iff _).1 e; rwa [row_eq, col_eq] at this)
  show (!(k0_cond4 (grid0.coords t) == 1#1)) = true
  rw [beq_eq_false_iff_ne.2 e]; rfl

/-- The codes' window is written at every point after the first row block. -/
theorem idle5_true (t : Fin cfg0.N) (h : t.val / 27 = 0) : idle0 5 (grid0.coords t) = true := by
  have e2 : ¬ k0_cond2 (grid0.coords t) = 1#1 := fun e => by have := (cond2_iff _).1 e; rw [row_eq] at this; omega
  have e3 : ¬ k0_cond3 (grid0.coords t) = 1#1 := fun e => by have := (cond3_iff _).1 e; rw [row_eq] at this; omega
  show (!(k0_cond2 (grid0.coords t) == 1#1) && !(k0_cond3 (grid0.coords t) == 1#1)) = true
  rw [beq_eq_false_iff_ne.2 e2, beq_eq_false_iff_ne.2 e3]; rfl

theorem idle5_false (t : Fin cfg0.N) (h : 0 < t.val / 27) : idle0 5 (grid0.coords t) = false := by
  show (!(k0_cond2 (grid0.coords t) == 1#1) && !(k0_cond3 (grid0.coords t) == 1#1)) = false
  by_cases h3 : t.val / 27 = 32
  · have e3 : k0_cond3 (grid0.coords t) = 1#1 := (cond3_iff _).2 (by rw [row_eq]; exact h3)
    rw [e3, Bool.and_comm]; rfl
  · have e2 : k0_cond2 (grid0.coords t) = 1#1 := (cond2_iff _).2 (by rw [row_eq]; have := lt_N t; omega)
    rw [e2]; rfl

/-- The first result's block is written back after the last point of each of the first 31 row blocks and after the last
    point of the grid. -/
theorem flush4_iff : ∀ t : Fin cfg0.N, (cfg0.win 4).flush t = (decide (t.val % 27 = 26 ∧ t.val / 27 < 31) || decide (t.val = 890)) := by
  intro t
  rw [Pipeline.Window.flush_eq_flushF]
  revert t
  decide +kernel

/-- The codes' block is written back after every point but those of the first row block. -/
theorem flush5_iff : ∀ t : Fin cfg0.N, (cfg0.win 5).flush t = decide (27 ≤ t.val) := by
  intro t
  rw [Pipeline.Window.flush_eq_flushF]
  revert t
  decide +kernel

end Cert.Kernel.Hand

end
-- ==== Proof.K.Track.lean ====
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import Idealize.ShloMosaic.Lib.Pipeline.FrameBody
public import Idealize.ShloMosaic.Lib.Pipeline.TableIdle
public import Idealize.ShloMosaic.Lib.Pipeline.Value
public import Idealize.ShloMosaic.Lib.VecWindow
public import Idealize.ShloMosaic.Lib.Tactic
public import proofs.«01_k».proof.Proof.K.Body
public import proofs.«01_k».proof.Proof.K.Sched

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra. -/
local notation "𝕄" => MT nD τ sig Unit (Elt F) ℕ (UR sig nD τ) ℕ

variable (m : (ℓ : Loc nD τ sig) → Buf (Elt F) ℓ) (ρ : Dev nD → PrngReg)

/-! ## The values of the whole run, by row block and column block -/

/-- The grid point of row block `i`, column block `j`. -/
def pt (i j : ℕ) : Fin cfg0.N := ⟨min (27 * i + j) 890, lt_of_le_of_lt (min_le_right _ _) (lt_of_lt_of_eq (by decide : 890 < 891) N_0.symm)⟩

theorem pt_self (t : Fin cfg0.N) : pt (t.val / 27) (t.val % 27) = t := by
  refine Fin.ext ?_
  show min (27 * (t.val / 27) + t.val % 27) 890 = t.val
  have := lt_N t
  omega

/-- Block `(i, j)` of the scaled product. -/
def Yv (c : Dev nD) (i j : ℕ) : FVec F S384x1024 .f32 :=
  k0_pay5 (iblk m c 0 (pt i j)) (iblk m c 2 (pt i j)) (iblk m c 1 (pt i j)) (iblk m c 3 (pt i j))

theorem Yv_self (c : Dev nD) (t : Fin cfg0.N) :
    k0_pay5 (iblk m c 0 t) (iblk m c 2 t) (iblk m c 1 t) (iblk m c 3 t) = Yv m c (t.val / 27) (t.val % 27) := by
  unfold Yv
  rw [pt_self]

/-- The lane maxima of row block `i` over its column blocks `0 ... j`. -/
def Av (c : Dev nD) (i : ℕ) : ℕ → FVec F S384x128 .f32
  | 0 => laneMax (Yv m c i 0)
  | j + 1 => maximumf (Av c i j) (laneMax (Yv m c i (j + 1)))

theorem amaxStep_zero (y : FVec F S384x1024 .f32) (a : FVec F S384x128 .f32) : amaxStep 0 y a = laneMax y := rfl

theorem amaxStep_pos (j : ℕ) (h0 : 0 < j) (hj : j < 27) (y : FVec F S384x1024 .f32) (a : FVec F S384x128 .f32) :
    amaxStep j y a = maximumf a (laneMax y) := by
  have h : ∀ j : Fin 27, 0 < j.val → Scalar.cmpi .eq (BitVec.ofNat 32 j.val) 0#32 = 0#1 := by decide
  unfold amaxStep
  rw [h ⟨j, hj⟩ h0]
  rfl

theorem amaxStep_Av (c : Dev nD) (i j : ℕ) (hj : j < 27) (a : FVec F S384x128 .f32) (ha : 0 < j → a = Av m c i (j - 1)) :
    amaxStep j (Yv m c i j) a = Av m c i j := by
  cases j with
  | zero => rw [amaxStep_zero]; rfl
  | succ j =>
    rw [amaxStep_pos _ (Nat.succ_pos _) hj, ha (Nat.succ_pos _)]
    rfl

/-- What the kernel's scratch holds before point `n`: of the kept row block, the column blocks already visited in this row block
    hold this row block's product and the others the previous row block's; the lane maxima are those of the blocks visited; the
    reciprocal scale is the previous row block's. -/
structure Inv (c : Dev nD) (n : ℕ) (x : Vec F S384x27648 .f32) (a : Vec F S384x128 .f32) (v : Vec F S384x1 .f32) : Prop where
  new : ∀ j : Fin 27, j.val < n % 27 → n / 27 < 32 → yblk x j = Yv m c (n / 27) j.val
  old : ∀ j : Fin 27, ¬ (j.val < n % 27 ∧ n / 27 < 32) → 1 ≤ n / 27 → yblk x j = Yv m c (min (n / 27 - 1) 31) j.val
  amax : 0 < n % 27 → n / 27 < 32 → a = Av m c (n / 27) (n % 27 - 1)
  inv : 1 ≤ n / 27 → v = invOf (Av m c (min (n / 27 - 1) 31) 26)

theorem yblk_yput_same (x : Vec F S384x27648 .f32) (j : Fin 27) (y : Vec F S384x1024 .f32) : yblk (yput x j y) j = y :=
  VecWindow.window_put_same x _ _ _ _

theorem yblk_yput_ne (x : Vec F S384x27648 .f32) (j k : Fin 27) (h : k ≠ j) (y : Vec F S384x1024 .f32) : yblk (yput x j y) k = yblk x k :=
  VecWindow.window_put_of_disjoint x _ _ _ _ (yinb k) _ 1 (by
    have : k.val ≠ j.val := fun e => h (Fin.ext e)
    show k.val * 1024 + 1024 ≤ j.val * 1024 ∨ j.val * 1024 + 1024 ≤ k.val * 1024
    omega)

/-- Before the first point nothing is claimed. -/
theorem inv_zero (c : Dev nD) (x : Vec F S384x27648 .f32) (a : Vec F S384x128 .f32) (v : Vec F S384x1 .f32) : Inv m c 0 x a v where
  new j h := absurd h (by omega)
  old j h h1 := absurd h1 (by omega)
  amax h := absurd h (by omega)
  inv h := absurd h (by omega)

theorem Inv.amaxStep_eq {c : Dev nD} {n : ℕ} {x : Vec F S384x27648 .f32} {a : Vec F S384x128 .f32} {v : Vec F S384x1 .f32}
    (h : Inv m c n x a v) (hi : n / 27 < 32) : amaxStep (n % 27) (Yv m c (n / 27) (n % 27)) a = Av m c (n / 27) (n % 27) :=
  amaxStep_Av m c _ _ (Nat.mod_lt _ (by omega)) a fun h0 => h.amax h0 hi

/-- A point that computes a block and is not the last of its row block. -/
theorem Inv.mid {c : Dev nD} {n : ℕ} {x : Vec F S384x27648 .f32} {a : Vec F S384x128 .f32} {v : Vec F S384x1 .f32}
    (h : Inv m c n x a v) (hi : n / 27 < 32) (hj : n % 27 < 26) :
    Inv m c (n + 1) (yput x (col n) (Yv m c (n / 27) (n % 27))) (Av m c (n / 27) (n % 27)) v := by
  have e1 : (n + 1) / 27 = n / 27 := by omega
  have e2 : (n + 1) % 27 = n % 27 + 1 := by omega
  constructor
  · intro j hlt _
    rw [e2] at hlt
    rw [e1]
    by_cases hjn : j = col n
    · subst hjn
      exact yblk_yput_same x _ _
    · rw [yblk_yput_ne x _ _ hjn]
      exact h.new j (by have : j.val ≠ n % 27 := fun e => hjn (Fin.ext e); omega) hi
  · intro j hnot h1
    rw [e1, e2] at hnot
    rw [e1] at h1 ⊢
    have hjn : j ≠ col n := fun e => hnot ⟨by rw [e]; show n % 27 < _; omega, hi⟩
    rw [yblk_yput_ne x _ _ hjn]
    exact h.old j (fun hh => hnot ⟨by omega, hi⟩) h1
  · intro _ _
    rw [e1, e2]
    rfl
  · intro h1
    rw [e1] at h1 ⊢
    exact h.inv h1

/-- The last point of a row block. -/
theorem Inv.last {c : Dev nD} {n : ℕ} {x : Vec F S384x27648 .f32} {a : Vec F S384x128 .f32} {v : Vec F S384x1 .f32}
    (h : Inv m c n x a v) (hi : n / 27 < 32) (hj : n % 27 = 26) (a' : Vec F S384x128 .f32) :
    Inv m c (n + 1) (yput x (col n) (Yv m c (n / 27) (n % 27))) a' (invOf (Av m c (n / 27) (n % 27))) := by
  have e1 : (n + 1) / 27 = n / 27 + 1 := by omega
  have e2 : (n + 1) % 27 = 0 := by omega
  have e3 : min (n / 27 + 1 - 1) 31 = n / 27 := by omega
  constructor
  · intro j hlt _
    rw [e2] at hlt
    omega
  · intro j _ _
    rw [e1, e3]
    by_cases hjn : j = col n
    · subst hjn
      exact yblk_yput_same x _ _
    · rw [yblk_yput_ne x _ _ hjn]
      exact h.new j (by have : j.val ≠ n % 27 := fun e => hjn (Fin.ext e); have := j.isLt; omega) hi
  · intro h0
    rw [e2] at h0
    omega
  · intro _
    rw [e1, e3, hj]

/-- A point after the last row block changes nothing it keeps. -/
theorem Inv.tail {c : Dev nD} {n : ℕ} {x : Vec F S384x27648 .f32} {a : Vec F S384x128 .f32} {v : Vec F S384x1 .f32}
    (h : Inv m c n x a v) (hi : n / 27 = 32) : Inv m c (n + 1) x a v := by
  have hge : 32 ≤ (n + 1) / 27 := by omega
  have e3 : min ((n + 1) / 27 - 1) 31 = min (n / 27 - 1) 31 := by omega
  constructor
  · intro j _ hlt
    omega
  · intro j _ _
    rw [e3]
    exact h.old j (fun hh => by omega) (by omega)
  · intro _ hlt
    omega
  · intro _
    rw [e3]
    exact h.inv (by omega)

/-- The codes a point after the first row block writes are those of the previous row block. -/
theorem Inv.codes {c : Dev nD} {n : ℕ} {x : Vec F S384x27648 .f32} {a : Vec F S384x128 .f32} {v : Vec F S384x1 .f32}
    (h : Inv m c n x a v) (h1 : 1 ≤ n / 27) :
    k0_pay3 (yblk x (col n)) v
      = k0_pay3 (Yv m c (min (n / 27 - 1) 31) (n % 27)) (invOf (Av m c (min (n / 27 - 1) 31) 26)) := by
  rw [h.inv h1, h.old (col n) (fun hh => by have : (col n).val = n % 27 := rfl; omega) h1]
  rfl

end Cert.Kernel.Hand

end
-- ==== Proof.K.Frame.lean ====
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import Idealize.ShloMosaic.Lib.Pipeline.FrameBody
public import Idealize.ShloMosaic.Lib.Pipeline.TableIdle
public import Idealize.ShloMosaic.Lib.Pipeline.Value
public import Idealize.ShloMosaic.Lib.VecWindow
public import Idealize.ShloMosaic.Lib.Tactic
public import proofs.«01_k».proof.Proof.K.Track

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra. -/
local notation "𝕄" => MT nD τ sig Unit (Elt F) ℕ (UR sig nD τ) ℕ

variable (m : (ℓ : Loc nD τ sig) → Buf (Elt F) ℓ) (ρ : Dev nD → PrngReg)

/-! ## What the scratch and the windows hold, point by point -/

/-- The scratch before point `n`, at contents that `Inv` describes, and the core's generator register. -/
def scr (c : Dev nD) (n : ℕ) : sProp 𝕄 :=
  iprop((∃ x a v, ⌜Inv m c n x a v⌝ ∗ owns (c : Thread nD τ) (Memref.whole cc0_scratch0) fullShare x
      ∗ owns (c : Thread nD τ) (Memref.whole cc0_scratch1) fullShare a ∗ owns (c : Thread nD τ) (Memref.whole cc0_scratch2) fullShare v)
    ∗ ∃ r, prngReg c r)

/-- The scale block of point `t`: that of its row block, the last row block's after it. -/
def scaleAt (c : Dev nD) (t : Fin cfg0.N) : FVec F S384x1 .f32 := k0_pay14 (Av m c (min (t.val / 27) 31) 26)

/-- The codes block of point `t`: the previous row block's, at this column block. -/
def codesAt (c : Dev nD) (t : Fin cfg0.N) : FVec F S384x1024 .fp8e4m3 :=
  k0_pay3 (Yv m c (min (t.val / 27 - 1) 31) (t.val % 27)) (invOf (Av m c (min (t.val / 27 - 1) 31) 26))

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => scaleAt m c t
    | ⟨5, _⟩ => codesAt m c t
  Φ t := scr m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = scaleAt m c t := by dsimp only [dats]
theorem after_5 (c : Dev nD) (t : Fin cfg0.N) : (dats m 0 c).after 5 t = codesAt m c t := by dsimp only [dats]

theorem before_0 (c : Dev nD) (t : Fin cfg0.N) (d) : (dats m 0 c).before 0 t d = iblk m c 0 t := before0_0_of m _ (A_eq m c 0) (after_0 m c) t d
theorem before_1 (c : Dev nD) (t : Fin cfg0.N) (d) : (dats m 0 c).before 1 t d = iblk m c 1 t := before0_1_of m _ (A_eq m c 1) (after_1 m c) t d
theorem before_2 (c : Dev nD) (t : Fin cfg0.N) (d) : (dats m 0 c).before 2 t d = iblk m c 2 t := before0_2_of m _ (A_eq m c 2) (after_2 m c) t d
theorem before_3 (c : Dev nD) (t : Fin cfg0.N) (d) : (dats m 0 c).before 3 t d = iblk m c 3 t := before0_3_of m _ (A_eq m c 3) (after_3 m c) t d

/-- The last point finds in the scale's buffer the last row block's scale, unwritten since the row block's last point. -/
theorem before_4_last (c : Dev nD) (t : Fin cfg0.N) (h : t.val = 890) (d) : (dats m 0 c).before 4 t d = (dats m 0 c).after 4 t := by
  have hfetch : ∀ t, (cfg0.win 4).fetch t = false := fun t => (cfg0.win 4).fetch_out rfl t
  rw [(dats m 0 c).before_idle_run 4 hfetch d 26 t (by omega) (fun j h1 h2 => ⟨idle4_true j (by omega), by
    rw [flush4_iff]; simp only [Bool.or_eq_false_iff, decide_eq_false_iff_not]; omega⟩)]
  rw [(dats m 0 c).before_of_pos 4 _ (by show t.val - 26 ≠ 0; omega) (hfetch _)]
  rw [if_neg (by
    rw [flush4_iff]; simp only [Bool.or_eq_true, decide_eq_true_eq]; omega)]
  unfold Dat.left
  rw [show cfg0.idle 4 (grid0.coords ⟨t.val - 26 - 1, Nat.lt_of_le_of_lt (Nat.sub_le _ _) (Nat.lt_of_le_of_lt (Nat.sub_le _ _) t.isLt)⟩) = false from
    idle4_false _ (by show (t.val - 26 - 1) % 27 = 26 ∧ (t.val - 26 - 1) / 27 < 32; omega)]
  show (dats m 0 c).after 4 _ = _
  rw [after_4, after_4]
  unfold scaleAt
  rw [show min ((t.val - 26 - 1) / 27) 31 = min (t.val / 27) 31 by omega]

/-- What the body leaves in the scale's buffer: the scale where it writes it or the block goes back, else what it found. -/
def left4 (c : Dev nD) (t : Fin cfg0.N) : sProp 𝕄 :=
  match idle0 4 (grid0.coords t) with
  | true =>
    match (cfg0.win 4).flush t with
    | false => iprop(∃ d, owns (c : Thread nD τ) (st0_4 t) fullShare ((dats m 0 c).before 4 t d))
    | true => owns (c : Thread nD τ) (st0_4 t) fullShare ((dats m 0 c).after 4 t)
  | false => owns (c : Thread nD τ) (st0_4 t) fullShare ((dats m 0 c).after 4 t)

/-- What the body leaves in the codes' buffer. -/
def left5 (c : Dev nD) (t : Fin cfg0.N) : sProp 𝕄 :=
  match idle0 5 (grid0.coords t) with
  | true =>
    match (cfg0.win 5).flush t with
    | false => iprop(∃ d, owns (c : Thread nD τ) (st0_5 t) fullShare ((dats m 0 c).before 5 t d))
    | true => owns (c : Thread nD τ) (st0_5 t) fullShare ((dats m 0 c).after 5 t)
  | false => owns (c : Thread nD τ) (st0_5 t) fullShare ((dats m 0 c).after 5 t)

theorem left4_written (c : Dev nD) (t : Fin cfg0.N) (h : t.val % 27 = 26 ∧ t.val / 27 < 32) (X : Vec F S384x1 .f32) (hX : X = scaleAt m c t) :
    owns (c : Thread nD τ) (st0_4 t) fullShare X ⊢ left4 m c t := by
  subst hX
  unfold left4
  rw [idle4_false t h, after_4]

theorem left4_kept (c : Dev nD) (t : Fin cfg0.N) (h : ¬ (t.val % 27 = 26 ∧ t.val / 27 < 32)) (d) :
    owns (c : Thread nD τ) (st0_4 t) fullShare ((dats m 0 c).before 4 t d) ⊢ left4 m c t := by
  unfold left4
  rw [idle4_true t h]
  by_cases hl : t.val = 890
  · rw [show (cfg0.win 4).flush t = true from (flush4_iff t).trans (by simp [hl]), before_4_last m c t hl d]
  · rw [show (cfg0.win 4).flush t = false from (flush4_iff t).trans (by simp only [Bool.or_eq_false_iff, decide_eq_false_iff_not]; omega)]
    dsimp only
    iintro H
    iexists d
    iexact H

theorem left5_written (c : Dev nD) (t : Fin cfg0.N) (h : 0 < t.val / 27) (X : Vec F S384x1024 .fp8e4m3) (hX : X = codesAt m c t) :
    owns (c : Thread nD τ) (st0_5 t) fullShare X ⊢ left5 m c t := by
  subst hX
  unfold left5
  rw [idle5_false t h, after_5]

theorem left5_kept (c : Dev nD) (t : Fin cfg0.N) (h : t.val / 27 = 0) (d) :
    owns (c : Thread nD τ) (st0_5 t) fullShare ((dats m 0 c).before 5 t d) ⊢ left5 m c t := by
  unfold left5
  rw [idle5_true t h, show (cfg0.win 5).flush t = false from (flush5_iff t).trans (by simp only [decide_eq_false_iff_not]; omega)]
  dsimp only
  iintro H
  iexists d
  iexact H

/-! ## The body, at every point -/

/-- What the body is given at point `t`. -/
def bodyPre (c : Dev nD) (t : Fin cfg0.N) : sProp 𝕄 :=
  iprop(scr m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it gives back. -/
def bodyPost (c : Dev nD) (t : Fin cfg0.N) : sProp 𝕄 :=
  iprop(scr m c (t.val + 1) ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ left4 m c t ∗ left5 m c t)

theorem amax_self {c : Dev nD} {t : Fin cfg0.N} {x : Vec F S384x27648 .f32} {a : Vec F S384x128 .f32} {v : Vec F S384x1 .f32}
    (hI : Inv m c t.val x a v) (hi : t.val / 27 < 32) :
    amaxStep (grid0.coords t 1).val (k0_pay5 (iblk m c 0 t) (iblk m c 2 t) (iblk m c 1 t) (iblk m c 3 t)) a = Av m c (t.val / 27) (t.val % 27) := by
  rw [Yv_self, col_eq]
  exact hI.amaxStep_eq m hi

theorem mid_self {c : Dev nD} {t : Fin cfg0.N} {x : Vec F S384x27648 .f32} {a : Vec F S384x128 .f32} {v : Vec F S384x1 .f32}
    (hI : Inv m c t.val x a v) (hi : t.val / 27 < 32) (hj : t.val % 27 < 26) :
    Inv m c (t.val + 1) (yput x (grid0.coords t 1) (k0_pay5 (iblk m c 0 t) (iblk m c 2 t) (iblk m c 1 t) (iblk m c 3 t)))
      (amaxStep (grid0.coords t 1).val (k0_pay5 (iblk m c 0 t) (iblk m c 2 t) (iblk m c 1 t) (iblk m c 3 t)) a) v := by
  rw [amax_self m hI hi, coords_col, Yv_self]
  exact hI.mid m hi hj

theorem last_self {c : Dev nD} {t : Fin cfg0.N} {x : Vec F S384x27648 .f32} {a : Vec F S384x128 .f32} {v : Vec F S384x1 .f32}
    (hI : Inv m c t.val x a v) (hi : t.val / 27 < 32) (hj : t.val % 27 = 26) :
    Inv m c (t.val + 1) (yput x (grid0.coords t 1) (k0_pay5 (iblk m c 0 t) (iblk m c 2 t) (iblk m c 1 t) (iblk m c 3 t)))
      (amaxStep (grid0.coords t 1).val (k0_pay5 (iblk m c 0 t) (iblk m c 2 t) (iblk m c 1 t) (iblk m c 3 t)) a)
      (invOf (amaxStep (grid0.coords t 1).val (k0_pay5 (iblk m c 0 t) (iblk m c 2 t) (iblk m c 1 t) (iblk m c 3 t)) a)) := by
  rw [amax_self m hI hi, coords_col, Yv_self]
  exact hI.last m hi hj _

theorem scale_self {c : Dev nD} {t : Fin cfg0.N} {x : Vec F S384x27648 .f32} {a : Vec F S384x128 .f32} {v : Vec F S384x1 .f32}
    (hI : Inv m c t.val x a v) (hi : t.val / 27 < 32) (hj : t.val % 27 = 26) :
    k0_pay14 (amaxStep (grid0.coords t 1).val (k0_pay5 (iblk m c 0 t) (iblk m c 2 t) (iblk m c 1 t) (iblk m c 3 t)) a) = scaleAt m c t := by
  rw [amax_self m hI hi]
  unfold scaleAt
  rw [hj, show min (t.val / 27) 31 = t.val / 27 by omega]

theorem codes_self {c : Dev nD} {t : Fin cfg0.N} {x : Vec F S384x27648 .f32} {a : Vec F S384x128 .f32} {v : Vec F S384x1 .f32}
    (hI : Inv m c t.val x a v) (h1 : 0 < t.val / 27) : k0_pay3 (yblk x (grid0.coords t 1)) v = codesAt m c t := by
  rw [coords_col]
  exact hI.codes m h1

/-- The body at a point of the first row block, before its last column block. -/
theorem sound_A (c : Dev nD) (t : Fin cfg0.N) (hi : t.val / 27 = 0) (hj : t.val % 27 < 26) :
    bodyPre m c t ⊢ wp frame (wpE (defs₀ (F := F)) Variants.none c none) Set.univ (bodyAt0 t) (fun _ => bodyPost m c t) := by
  unfold bodyPre bodyPost bodyAt0 scr
  simp only [before_0, before_1, before_2, before_3]
  rw [after_0, after_1, after_2, after_3]
  unfold Dat.owesAt Pipeline.owesWithin
  rw [show (dats m 0 c).owed t.castSucc = 0 from rfl, show (dats m 0 c).owed t.succ = 0 from rfl]
  iintro ⟨⟨⟨%x, %a, %v, %hI, HS0, HS1, HS2⟩, Hg⟩, ⟨%W, -, HW⟩, ⟨%d0, H0⟩, ⟨%d1, H1⟩, ⟨%d2, H2⟩, ⟨%d3, H3⟩, ⟨%d4, H4⟩, ⟨%d5, H5⟩⟩
  iapply (runA c (grid0.coords t) ((cond1_iff _).2 (by rw [row_eq]; omega)) (fun e => by have := (cond2_iff _).1 e; rw [row_eq] at this; omega) (fun e => by have := (cond3_iff _).1 e; rw [row_eq] at this; omega) (fun e => by have := (cond4_iff _).1 e; rw [row_eq, col_eq] at this; omega) _ _ _ _ _ _ _ _ _ _ _ _ _ _ _ _ _ _ (iblk m c 0 t) (iblk m c 1 t) (iblk m c 2 t) (iblk m c 3 t) ((dats m 0 c).before 4 t d4) ((dats m 0 c).before 5 t d5) x a v _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitr [Hg]; swap; · iexact Hg
    iexists (yput x (grid0.coords t 1) (k0_pay5 (iblk m c 0 t) (iblk m c 2 t) (iblk m c 1 t) (iblk m c 3 t)))
    iexists (amaxStep (grid0.coords t 1).val (k0_pay5 (iblk m c 0 t) (iblk m c 2 t) (iblk m c 1 t) (iblk m c 3 t)) a)
    iexists v
    isplitr
    · ipureintro
      exact mid_self m hI (by omega) (by omega)
    isplitl [HS0]; · iexact HS0
    isplitl [HS1]; · iexact HS1
    iexact HS2
  isplitl [HW]
  · iexists W; isplitr
    · ipureintro; exact fun _ _ => Or.inl trivial
    iexact HW
  isplitl [H0]; · iexact H0
  isplitl [H1]; · iexact H1
  isplitl [H2]; · iexact H2
  isplitl [H3]; · iexact H3
  isplitl [H4]
  · iapply (left4_kept m c t (by omega) d4); iexact H4
  iapply (left5_kept m c t (by omega) d5); iexact H5

/-- The body at a point that ends the first row block. -/
theorem sound_B (c : Dev nD) (t : Fin cfg0.N) (hi : t.val / 27 = 0) (hj : t.val % 27 = 26) :
    bodyPre m c t ⊢ wp frame (wpE (defs₀ (F := F)) Variants.none c none) Set.univ (bodyAt0 t) (fun _ => bodyPost m c t) := by
  unfold bodyPre bodyPost bodyAt0 scr
  simp only [before_0, before_1, before_2, before_3]
  rw [after_0, after_1, after_2, after_3]
  unfold Dat.owesAt Pipeline.owesWithin
  rw [show (dats m 0 c).owed t.castSucc = 0 from rfl, show (dats m 0 c).owed t.succ = 0 from rfl]
  iintro ⟨⟨⟨%x, %a, %v, %hI, HS0, HS1, HS2⟩, Hg⟩, ⟨%W, -, HW⟩, ⟨%d0, H0⟩, ⟨%d1, H1⟩, ⟨%d2, H2⟩, ⟨%d3, H3⟩, ⟨%d4, H4⟩, ⟨%d5, H5⟩⟩
  iapply (runB c (grid0.coords t) ((cond1_iff _).2 (by rw [row_eq]; omega)) (fun e => by have := (cond2_iff _).1 e; rw [row_eq] at this; omega) (fun e => by have := (cond3_iff _).1 e; rw [row_eq] at this; omega) ((cond4_iff _).2 (by rw [row_eq, col_eq]; omega)) _ _ _ _ _ _ _ _ _ _ _ _ _ _ _ _ _ _ (iblk m c 0 t) (iblk m c 1 t) (iblk m c 2 t) (iblk m c 3 t) ((dats m 0 c).before 4 t d4) ((dats m 0 c).before 5 t d5) x a v _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitr [Hg]; swap; · iexact Hg
    iexists (yput x (grid0.coords t 1) (k0_pay5 (iblk m c 0 t) (iblk m c 2 t) (iblk m c 1 t) (iblk m c 3 t)))
    iexists (amaxStep (grid0.coords t 1).val (k0_pay5 (iblk m c 0 t) (iblk m c 2 t) (iblk m c 1 t) (iblk m c 3 t)) a)
    iexists (invOf (amaxStep (grid0.coords t 1).val (k0_pay5 (iblk m c 0 t) (iblk m c 2 t) (iblk m c 1 t) (iblk m c 3 t)) a))
    isplitr
    · ipureintro
      exact last_self m hI (by omega) (by omega)
    isplitl [HS0]; · iexact HS0
    isplitl [HS1]; · iexact HS1
    iexact HS2
  isplitl [HW]
  · iexists W; isplitr
    · ipureintro; exact fun _ _ => Or.inl trivial
    iexact HW
  isplitl [H0]; · iexact H0
  isplitl [H1]; · iexact H1
  isplitl [H2]; · iexact H2
  isplitl [H3]; · iexact H3
  isplitl [H4]
  · iapply (left4_written m c t (by omega) _ (scale_self m hI (by omega) (by omega))); iexact H4
  iapply (left5_kept m c t (by omega) d5); iexact H5

/-- The body at a point of a later row block, before its last column block. -/
theorem sound_C (c : Dev nD) (t : Fin cfg0.N) (hi : 0 < t.val / 27) (hi2 : t.val / 27 < 32) (hj : t.val % 27 < 26) :
    bodyPre m c t ⊢ wp frame (wpE (defs₀ (F := F)) Variants.none c none) Set.univ (bodyAt0 t) (fun _ => bodyPost m c t) := by
  unfold bodyPre bodyPost bodyAt0 scr
  simp only [before_0, before_1, before_2, before_3]
  rw [after_0, after_1, after_2, after_3]
  unfold Dat.owesAt Pipeline.owesWithin
  rw [show (dats m 0 c).owed t.castSucc = 0 from rfl, show (dats m 0 c).owed t.succ = 0 from rfl]
  iintro ⟨⟨⟨%x, %a, %v, %hI, HS0, HS1, HS2⟩, Hg⟩, ⟨%W, -, HW⟩, ⟨%d0, H0⟩, ⟨%d1, H1⟩, ⟨%d2, H2⟩, ⟨%d3, H3⟩, ⟨%d4, H4⟩, ⟨%d5, H5⟩⟩
  iapply (runC c (grid0.coords t) (fun e => by have := (cond1_iff _).1 e; rw [row_eq] at this; omega) ((cond2_iff _).2 (by rw [row_eq]; omega)) (fun e => by have := (cond3_iff _).1 e; rw [row_eq] at this; omega) (fun e => by have := (cond4_iff _).1 e; rw [row_eq, col_eq] at this; omega) _ _ _ _ _ _ _ _ _ _ _ _ _ _ _ _ _ _ (iblk m c 0 t) (iblk m c 1 t) (iblk m c 2 t) (iblk m c 3 t) ((dats m 0 c).before 4 t d4) ((dats m 0 c).before 5 t d5) x a v _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitr [Hg]; swap; · iexact Hg
    iexists (yput x (grid0.coords t 1) (k0_pay5 (iblk m c 0 t) (iblk m c 2 t) (iblk m c 1 t) (iblk m c 3 t)))
    iexists (amaxStep (grid0.coords t 1).val (k0_pay5 (iblk m c 0 t) (iblk m c 2 t) (iblk m c 1 t) (iblk m c 3 t)) a)
    iexists v
    isplitr
    · ipureintro
      exact mid_self m hI (by omega) (by omega)
    isplitl [HS0]; · iexact HS0
    isplitl [HS1]; · iexact HS1
    iexact HS2
  isplitl [HW]
  · iexists W; isplitr
    · ipureintro; exact fun _ _ => Or.inl trivial
    iexact HW
  isplitl [H0]; · iexact H0
  isplitl [H1]; · iexact H1
  isplitl [H2]; · iexact H2
  isplitl [H3]; · iexact H3
  isplitl [H4]
  · iapply (left4_kept m c t (by omega) d4); iexact H4
  iapply (left5_written m c t (by omega) _ (codes_self m hI (by omega))); iexact H5

/-- The body at a point that ends a later row block. -/
theorem sound_D (c : Dev nD) (t : Fin cfg0.N) (hi : 0 < t.val / 27) (hi2 : t.val / 27 < 32) (hj : t.val % 27 = 26) :
    bodyPre m c t ⊢ wp frame (wpE (defs₀ (F := F)) Variants.none c none) Set.univ (bodyAt0 t) (fun _ => bodyPost m c t) := by
  unfold bodyPre bodyPost bodyAt0 scr
  simp only [before_0, before_1, before_2, before_3]
  rw [after_0, after_1, after_2, after_3]
  unfold Dat.owesAt Pipeline.owesWithin
  rw [show (dats m 0 c).owed t.castSucc = 0 from rfl, show (dats m 0 c).owed t.succ = 0 from rfl]
  iintro ⟨⟨⟨%x, %a, %v, %hI, HS0, HS1, HS2⟩, Hg⟩, ⟨%W, -, HW⟩, ⟨%d0, H0⟩, ⟨%d1, H1⟩, ⟨%d2, H2⟩, ⟨%d3, H3⟩, ⟨%d4, H4⟩, ⟨%d5, H5⟩⟩
  iapply (runD c (grid0.coords t) (fun e => by have := (cond1_iff _).1 e; rw [row_eq] at this; omega) ((cond2_iff _).2 (by rw [row_eq]; omega)) (fun e => by have := (cond3_iff _).1 e; rw [row_eq] at this; omega) ((cond4_iff _).2 (by rw [row_eq, col_eq]; omega)) _ _ _ _ _ _ _ _ _ _ _ _ _ _ _ _ _ _ (iblk m c 0 t) (iblk m c 1 t) (iblk m c 2 t) (iblk m c 3 t) ((dats m 0 c).before 4 t d4) ((dats m 0 c).before 5 t d5) x a v _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitr [Hg]; swap; · iexact Hg
    iexists (yput x (grid0.coords t 1) (k0_pay5 (iblk m c 0 t) (iblk m c 2 t) (iblk m c 1 t) (iblk m c 3 t)))
    iexists (amaxStep (grid0.coords t 1).val (k0_pay5 (iblk m c 0 t) (iblk m c 2 t) (iblk m c 1 t) (iblk m c 3 t)) a)
    iexists (invOf (amaxStep (grid0.coords t 1).val (k0_pay5 (iblk m c 0 t) (iblk m c 2 t) (iblk m c 1 t) (iblk m c 3 t)) a))
    isplitr
    · ipureintro
      exact last_self m hI (by omega) (by omega)
    isplitl [HS0]; · iexact HS0
    isplitl [HS1]; · iexact HS1
    iexact HS2
  isplitl [HW]
  · iexists W; isplitr
    · ipureintro; exact fun _ _ => Or.inl trivial
    iexact HW
  isplitl [H0]; · iexact H0
  isplitl [H1]; · iexact H1
  isplitl [H2]; · iexact H2
  isplitl [H3]; · iexact H3
  isplitl [H4]
  · iapply (left4_written m c t (by omega) _ (scale_self m hI (by omega) (by omega))); iexact H4
  iapply (left5_written m c t (by omega) _ (codes_self m hI (by omega))); iexact H5

/-- The body at a point after the last row block. -/
theorem sound_E (c : Dev nD) (t : Fin cfg0.N) (hi : t.val / 27 = 32) :
    bodyPre m c t ⊢ wp frame (wpE (defs₀ (F := F)) Variants.none c none) Set.univ (bodyAt0 t) (fun _ => bodyPost m c t) := by
  unfold bodyPre bodyPost bodyAt0 scr
  simp only [before_0, before_1, before_2, before_3]
  rw [after_0, after_1, after_2, after_3]
  unfold Dat.owesAt Pipeline.owesWithin
  rw [show (dats m 0 c).owed t.castSucc = 0 from rfl, show (dats m 0 c).owed t.succ = 0 from rfl]
  iintro ⟨⟨⟨%x, %a, %v, %hI, HS0, HS1, HS2⟩, Hg⟩, ⟨%W, -, HW⟩, ⟨%d0, H0⟩, ⟨%d1, H1⟩, ⟨%d2, H2⟩, ⟨%d3, H3⟩, ⟨%d4, H4⟩, ⟨%d5, H5⟩⟩
  iapply (runE c (grid0.coords t) (fun e => by have := (cond1_iff _).1 e; rw [row_eq] at this; omega) (fun e => by have := (cond2_iff _).1 e; rw [row_eq] at this; omega) ((cond3_iff _).2 (by rw [row_eq]; omega)) (fun e => by have := (cond4_iff _).1 e; rw [row_eq, col_eq] at this; omega) _ _ _ _ _ _ _ _ _ _ _ _ _ _ _ _ _ _ (iblk m c 0 t) (iblk m c 1 t) (iblk m c 2 t) (iblk m c 3 t) ((dats m 0 c).before 4 t d4) ((dats m 0 c).before 5 t d5) x a v _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitr [Hg]; swap; · iexact Hg
    iexists x
    iexists a
    iexists v
    isplitr
    · ipureintro
      exact hI.tail m hi
    isplitl [HS0]; · iexact HS0
    isplitl [HS1]; · iexact HS1
    iexact HS2
  isplitl [HW]
  · iexists W; isplitr
    · ipureintro; exact fun _ _ => Or.inl trivial
    iexact HW
  isplitl [H0]; · iexact H0
  isplitl [H1]; · iexact H1
  isplitl [H2]; · iexact H2
  isplitl [H3]; · iexact H3
  isplitl [H4]
  · iapply (left4_kept m c t (by omega) d4); iexact H4
  iapply (left5_written m c t (by omega) _ (codes_self m hI (by omega))); iexact H5

theorem sound_body (c : Dev nD) (t : Fin cfg0.N) :
    bodyPre m c t ⊢ wp frame (wpE (defs₀ (F := F)) Variants.none c none) Set.univ (bodyAt0 t) (fun _ => bodyPost m c t) := by
  have hN := lt_N t
  by_cases h0 : t.val / 27 = 0
  · by_cases hj : t.val % 27 < 26
    · exact sound_A m c t h0 hj
    · exact sound_B m c t h0 (by omega)
  · by_cases h2 : t.val / 27 < 32
    · by_cases hj : t.val % 27 < 26
      · exact sound_C m c t (by omega) h2 hj
      · exact sound_D m c t (by omega) h2 (by omega)
    · exact sound_E m c t (by omega)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The scratch at any contents is what holds before the first point. -/
theorem scr_in (c : Dev nD) : Pipeline.ΦA spec0 c ⊢ (dats m 0 c).Φ 0 := by
  show _ ⊢ scr m c 0
  unfold Pipeline.ΦA scr
  rw [scopedRest0_eq]
  simp only [owns_whole]
  iintro ⟨⟨⟨%x, H0⟩, ⟨%a, H1⟩, ⟨%v, H2⟩⟩, Hg⟩
  isplitr [Hg]; swap; · iexact Hg
  iexists x
  iexists a
  iexists v
  isplitr
  · ipureintro
    exact inv_zero m c x a v
  isplitl [H0]; · iexact H0
  isplitl [H1]; · iexact H1
  iexact H2

/-- After the last point the scratch is at some contents. -/
theorem scr_out (c : Dev nD) : (dats m 0 c).Φ (Fin.last cfg0.N) ⊢ Pipeline.ΦA spec0 c := by
  show scr m c cfg0.N ⊢ _
  unfold Pipeline.ΦA scr
  rw [scopedRest0_eq]
  simp only [owns_whole]
  iintro ⟨⟨%x, %a, %v, -, H0, H1, H2⟩, Hg⟩
  isplitr [Hg]; swap; · iexact Hg
  isplitl [H0]; · iexists x; iexact H0
  isplitl [H1]; · iexists a; iexact H1
  iexists v
  iexact H2

set_option backward.isDefEq.respectTransparency.types false in
/-- The run: the program terminates, every window's array ends as its blocks written back one after another, every other array
    unchanged, and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := scr_in m) (hout := scr_out m)

/-- The arguments end as they were. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c)⟩

/-- The frame claim: the program terminates with its arguments unchanged and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨args_kept m r h.1, h.2⟩) (run_main m ρ)

end Cert.Kernel.Hand

end
-- ==== Proof.KI.Body.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.TableIdle
public import Idealize.ShloMosaic.Lib.Pipeline.Value
public import Idealize.ShloMosaic.Lib.VecWindow
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra. -/
local notation "𝕄" => MT nD τ sig Unit (Elt F) ℕ (UR sig nD τ) ℕ

/-! ## The values one grid point computes -/

/-- The largest absolute value of the eight lane groups of one 384 x 1024 block, lane by lane, in the order the kernel
    takes it. -/
def laneMax (y : FVec F S384x1024 .f32) : FVec F S384x128 .f32 :=
  maximumf (maximumf (maximumf (maximumf (maximumf (maximumf (maximumf
    (absf (extractStridedSlice S384x128 ![0, 0] y slices_S384x1024_o0_0_S384x128))
    (absf (extractStridedSlice S384x128 ![0, 128] y slices_S384x1024_o0_128_S384x128)))
    (absf (extractStridedSlice S384x128 ![0, 256] y slices_S384x1024_o0_256_S384x128)))
    (absf (extractStridedSlice S384x128 ![0, 384] y slices_S384x1024_o0_384_S384x128)))
    (absf (extractStridedSlice S384x128 ![0, 512] y slices_S384x1024_o0_512_S384x128)))
    (absf (extractStridedSlice S384x128 ![0, 640] y slices_S384x1024_o0_640_S384x128)))
    (absf (extractStridedSlice S384x128 ![0, 768] y slices_S384x1024_o0_768_S384x128)))
    (absf (extractStridedSlice S384x128 ![0, 896] y slices_S384x1024_o0_896_S384x128))

/-- The running lane maximum after block `j`: restarted at the first block of a row block. -/
def amaxStep (j : ℕ) (y : FVec F S384x1024 .f32) (a : FVec F S384x128 .f32) : FVec F S384x128 .f32 :=
  Scalar.select (Scalar.cmpi .eq (BitVec.ofNat 32 j) 0#32) (laneMax y) (maximumf a (laneMax y))

/-- The reciprocal scale the last block of a row block leaves, from the running lane maximum. -/
def invOf (a : FVec F S384x128 .f32) : FVec F S384x1 .f32 := k0_pay4 (k0_pay13 a) k0_pay15

/-- Where block `j` of the kept row block starts. -/
abbrev yoff (j : ℕ) : Fin 2 → ℕ := ![0, j * 1024]

/-- Every block of the kept row block lies inside it. -/
theorem yinb (j : Fin 27) : ∀ a : Fin 2, yoff j.val a + S384x1024.size a ≤ S384x27648.size a := by
  intro a
  have := j.isLt
  fin_cases a
  · show 0 + 384 ≤ 384; omega
  · show j.val * 1024 + 1024 ≤ 27648; omega

/-- The kernel's offset words name block `i 1`. -/
theorem off_eq (i : grid0.Coords) : k0_off2 i = yoff (i 1).val := by
  have h : ∀ j : Fin 27, (Scalar.indexCast (Scalar.muli (BitVec.ofNat 32 j.val) 1024#32)).toNat = j.val * 1024 := by decide
  exact congrArg (fun n : ℕ => (![0, n] : Fin 2 → ℕ)) (h (i 1))

/-- Block `j` of the kept row block. -/
abbrev yblk (x : Vec F S384x27648 .f32) (j : Fin 27) : Vec F S384x1024 .f32 := VecWindow.window x (yoff j.val) S384x1024.size (yinb j)

/-- The kept row block with block `j` replaced. -/
abbrev yput (x : Vec F S384x27648 .f32) (j : Fin 27) (y : Vec F S384x1024 .f32) : Vec F S384x27648 .f32 :=
  VecWindow.put x (yoff j.val) S384x1024.size y

theorem pay1_pay7 (i : grid0.Coords) (x : Vec F S384x7424 .fp8e4m3) (w : Vec F S1024x7424 .fp8e4m3) (xs : Vec F S384x1 .f32)
    (ws : Vec F S1x1024 .f32) (a : Vec F S384x128 .f32) :
    k0_pay1 (k0_pay7 (BitVec.ofNat 32 (i 1).val) x w xs ws a) = amaxStep (i 1).val (k0_pay5 x w xs ws) a := by
  unfold k0_pay1
  rw [shapeCast_self]
  rfl

theorem pay6_eq (x : Vec F S384x7424 .fp8e4m3) (w : Vec F S1024x7424 .fp8e4m3) (xs : Vec F S384x1 .f32) (ws : Vec F S1x1024 .f32) :
    k0_pay6 x w xs ws = k0_pay5 x w xs ws := by
  unfold k0_pay6
  rw [shapeCast_self]

theorem pay10_eq (x : Vec F S384x7424 .fp8e4m3) (w : Vec F S1024x7424 .fp8e4m3) (xs : Vec F S384x1 .f32) (ws : Vec F S1x1024 .f32) :
    k0_pay10 x w xs ws = k0_pay5 x w xs ws := by
  unfold k0_pay10
  rw [shapeCast_self]
  rfl

theorem pay2_eq (i : grid0.Coords) (x : Vec F S384x7424 .fp8e4m3) (w : Vec F S1024x7424 .fp8e4m3) (xs : Vec F S384x1 .f32)
    (ws : Vec F S1x1024 .f32) (a : Vec F S384x128 .f32) :
    k0_pay2 i (k0_pay9 x w xs ws) (k0_pay11 x w xs ws) (k0_pay12 x w xs ws) a = amaxStep (i 1).val (k0_pay5 x w xs ws) a := by
  unfold k0_pay2; dsimp only
  rw [shapeCast_self]
  rfl

/-! ## The body at one grid point, case by case

Each theorem runs the body over whole buffers holding the values `X2 ... X10` and states what each buffer holds afterwards. -/

/-- First row block, not its last block: the block of `y` is computed and kept, the lane maximum updated. -/
theorem runA (c : Dev nD) (i : grid0.Coords)
    (h1 : k0_cond1 i = 1#1) (h2 : ¬ k0_cond2 i = 1#1) (h3 : ¬ k0_cond3 i = 1#1) (h4 : ¬ k0_cond4 i = 1#1)
    (arg2 : Memref sig .tc .vmem S384x7424 .fp8e4m3) (harg2 : arg2.IsWhole)
    (arg3 : Memref sig .tc .vmem S384x1 .f32) (harg3 : arg3.IsWhole)
    (arg4 : Memref sig .tc .vmem S1024x7424 .fp8e4m3) (harg4 : arg4.IsWhole)
    (arg5 : Memref sig .tc .vmem S1x1024 .f32) (harg5 : arg5.IsWhole)
    (arg6 : Memref sig .tc .vmem S384x1 .f32) (harg6 : arg6.IsWhole)
    (arg7 : Memref sig .tc .vmem S384x1024 .fp8e4m3) (harg7 : arg7.IsWhole)
    (arg8 : Memref sig .tc .vmem S384x27648 .f32) (harg8 : arg8.IsWhole)
    (arg9 : Memref sig .tc .vmem S384x128 .f32) (harg9 : arg9.IsWhole)
    (arg10 : Memref sig .tc .vmem S384x1 .f32) (harg10 : arg10.IsWhole)
    (X2 : Vec F S384x7424 .fp8e4m3) (X3 : Vec F S384x1 .f32) (X4 : Vec F S1024x7424 .fp8e4m3) (X5 : Vec F S1x1024 .f32) (X6 : Vec F S384x1 .f32) (X7 : Vec F S384x1024 .fp8e4m3) (X8 : Vec F S384x27648 .f32) (X9 : Vec F S384x128 .f32) (X10 : Vec F S384x1 .f32)
    (K : PUnit → sProp 𝕄) :
    iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10
      ∗ ((owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare (yput X8 (i 1) (k0_pay5 X2 X4 X3 X5)) ∗ owns (c : Thread nD τ) arg9 fullShare (amaxStep (i 1).val (k0_pay5 X2 X4 X3 X5) X9) ∗ owns (c : Thread nD τ) arg10 fullShare X10) -∗ K ⟨⟩))
    ⊢ wp frame (wpE (defs₀ (F := F)) Variants.none c none) Set.univ
        (cc0__body i arg2 harg2 arg3 harg3 arg4 harg4 arg5 harg5 arg6 harg6 arg7 harg7 arg8 harg8 arg9 harg9 arg10 harg10) K := by
  simp only [owns_eq_rep]
  simp only [cc0__body_eq_skeleton]; unfold cc0__body_skel
  iintro ⟨H2, H3, H4, H5, H6, H7, H8, H9, H10, Hk⟩
  sl_exec (disch := first | sl_exact h1 | sl_exact h2 | sl_exact h3 | sl_exact h4)
  sl_step
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · rewrite [← owns_eq_rep]; unfold owns; iexists _; isplitr; swap; · iexact H8
    ipureintro
    refine (View.read_writes_rep_unit _ _ _ _ (off_eq i)).trans ?_
    rw [View.readAt_rep_full arg2.view, View.readAt_rep_full arg4.view, View.readAt_rep_full arg3.view, View.readAt_rep_full arg5.view]
    exact congrArg (yput X8 (i 1)) (pay6_eq X2 X4 X3 X5)
  isplitl [H9]
  · rewrite [← owns_eq_rep]; unfold owns; iexists _; isplitr; swap; · iexact H9
    ipureintro
    refine (View.read_writes_full _ _ _ _ _).trans ?_
    try delta runA.sl.r_4
    try delta runA.sl.r_3
    try delta runA.sl.r_2
    try delta runA.sl.r_1
    try delta runA.sl.r
    try delta runA.sl.v16
    try delta runA.sl.H9_1
    try delta runA.sl.r_4
    try delta runA.sl.r_3
    try delta runA.sl.r_2
    try delta runA.sl.r_1
    try delta runA.sl.r
    rw [View.readAt_rep_full arg2.view, View.readAt_rep_full arg4.view, View.readAt_rep_full arg3.view, View.readAt_rep_full arg5.view, View.readAt_rep_full arg9.view]
    exact pay1_pay7 i X2 X4 X3 X5 X9
  · iexact H10

/-- First row block, last block: as `runA`, then the scale and the reciprocal scale are written. -/
theorem runB (c : Dev nD) (i : grid0.Coords)
    (h1 : k0_cond1 i = 1#1) (h2 : ¬ k0_cond2 i = 1#1) (h3 : ¬ k0_cond3 i = 1#1) (h4 : k0_cond4 i = 1#1)
    (arg2 : Memref sig .tc .vmem S384x7424 .fp8e4m3) (harg2 : arg2.IsWhole)
    (arg3 : Memref sig .tc .vmem S384x1 .f32) (harg3 : arg3.IsWhole)
    (arg4 : Memref sig .tc .vmem S1024x7424 .fp8e4m3) (harg4 : arg4.IsWhole)
    (arg5 : Memref sig .tc .vmem S1x1024 .f32) (harg5 : arg5.IsWhole)
    (arg6 : Memref sig .tc .vmem S384x1 .f32) (harg6 : arg6.IsWhole)
    (arg7 : Memref sig .tc .vmem S384x1024 .fp8e4m3) (harg7 : arg7.IsWhole)
    (arg8 : Memref sig .tc .vmem S384x27648 .f32) (harg8 : arg8.IsWhole)
    (arg9 : Memref sig .tc .vmem S384x128 .f32) (harg9 : arg9.IsWhole)
    (arg10 : Memref sig .tc .vmem S384x1 .f32) (harg10 : arg10.IsWhole)
    (X2 : Vec F S384x7424 .fp8e4m3) (X3 : Vec F S384x1 .f32) (X4 : Vec F S1024x7424 .fp8e4m3) (X5 : Vec F S1x1024 .f32) (X6 : Vec F S384x1 .f32) (X7 : Vec F S384x1024 .fp8e4m3) (X8 : Vec F S384x27648 .f32) (X9 : Vec F S384x128 .f32) (X10 : Vec F S384x1 .f32)
    (K : PUnit → sProp 𝕄) :
    iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10
      ∗ ((owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare (k0_pay14 (amaxStep (i 1).val (k0_pay5 X2 X4 X3 X5) X9)) ∗ owns (c : Thread nD τ) arg7 fullShare X7 ∗ owns (c : Thread nD τ) arg8 fullShare (yput X8 (i 1) (k0_pay5 X2 X4 X3 X5)) ∗ owns (c : Thread nD τ) arg9 fullShare (amaxStep (i 1).val (k0_pay5 X2 X4 X3 X5) X9) ∗ owns (c : Thread nD τ) arg10 fullShare (invOf (amaxStep (i 1).val (k0_pay5 X2 X4 X3 X5) X9))) -∗ K ⟨⟩))
    ⊢ wp frame (wpE (defs₀ (F := F)) Variants.none c none) Set.univ
        (cc0__body i arg2 harg2 arg3 harg3 arg4 harg4 arg5 harg5 arg6 harg6 arg7 harg7 arg8 harg8 arg9 harg9 arg10 harg10) K := by
  simp only [owns_eq_rep]
  simp only [cc0__body_eq_skeleton]; unfold cc0__body_skel
  iintro ⟨H2, H3, H4, H5, H6, H7, H8, H9, H10, Hk⟩
  sl_exec (disch := first | sl_exact h1 | sl_exact h2 | sl_exact h3 | sl_exact h4)
  sl_step
  iapply Hk
  isplitl [H2]
  · iexact H2
  isplitl [H3]
  · iexact H3
  isplitl [H4]
  · iexact H4
  isplitl [H5]
  · iexact H5
  isplitl [H6]
  · rewrite [← owns_eq_rep]; unfold owns; iexists _; isplitr; swap; · iexact H6
    ipureintro
    refine (View.read_writes_full _ _ _ _ _).trans ?_
    try delta runB.sl.r_4
    try delta runB.sl.r_3
    try delta runB.sl.r_2
    try delta runB.sl.r_1
    try delta runB.sl.r
    try delta runB.sl.v16
    try delta runB.sl.H9_1
    try delta runB.sl.r_4
    try delta runB.sl.r_3
    try delta runB.sl.r_2
    try delta runB.sl.r_1
    try delta runB.sl.r
    rw [View.readCov_full, View.readAt_rep_full arg2.view, View.readAt_rep_full arg4.view, View.readAt_rep_full arg3.view, View.readAt_rep_full arg5.view, View.readAt_rep_full arg9.view]
    exact congrArg k0_pay14 (pay1_pay7 i X2 X4 X3 X5 X9)
  isplitl [H7]
  · iexact H7
  isplitl [H8]
  · rewrite [← owns_eq_rep]; unfold owns; iexists _; isplitr; swap; · iexact H8
    ipureintro
    refine (View.read_writes_rep_unit _ _ _ _ (off_eq i)).trans ?_
    rw [View.readAt_rep_full arg2.view, View.readAt_rep_full arg4.view, View.readAt_rep_full arg3.view, View.readAt_rep_full arg5.view]
    exact congrArg (yput X8 (i 1)) (pay6_eq X2 X4 X3 X5)
  isplitl [H9]
  · rewrite [← owns_eq_rep]; unfold owns; iexists _; isplitr; swap; · iexact H9
    ipureintro
    refine (View.read_writes_full _ _ _ _ _).trans ?_
    try delta runB.sl.r_4
    try delta runB.sl.r_3
    try delta runB.sl.r_2
    try delta runB.sl.r_1
    try delta runB.sl.r
    try delta runB.sl.v16
    try delta runB.sl.H9_1
    try delta runB.sl.r_4
    try delta runB.sl.r_3
    try delta runB.sl.r_2
    try delta runB.sl.r_1
    try delta runB.sl.r
    rw [View.readAt_rep_full arg2.view, View.readAt_rep_full arg4.view, View.readAt_rep_full arg3.view, View.readAt_rep_full arg5.view, View.readAt_rep_full arg9.view]
    exact pay1_pay7 i X2 X4 X3 X5 X9
  · rewrite [← owns_eq_rep]; unfold owns; iexists _; isplitr; swap; · iexact H10
    ipureintro
    refine (View.read_writes_full _ _ _ _ _).trans ?_
    try delta runB.sl.r_4
    try delta runB.sl.r_3
    try delta runB.sl.r_2
    try delta runB.sl.r_1
    try delta runB.sl.r
    try delta runB.sl.v16
    try delta runB.sl.H9_1
    try delta runB.sl.r_4
    try delta runB.sl.r_3
    try delta runB.sl.r_2
    try delta runB.sl.r_1
    try delta runB.sl.r
    rw [View.readCov_full, View.readAt_rep_full arg2.view, View.readAt_rep_full arg4.view, View.readAt_rep_full arg3.view, View.readAt_rep_full arg5.view, View.readAt_rep_full arg9.view]
    exact congrArg invOf (pay1_pay7 i X2 X4 X3 X5 X9)

/-- A middle row block, not its last block: the kept block is quantised, then replaced; the lane maximum updated. -/
theorem runC (c : Dev nD) (i : grid0.Coords)
    (h1 : ¬ k0_cond1 i = 1#1) (h2 : k0_cond2 i = 1#1) (h3 : ¬ k0_cond3 i = 1#1) (h4 : ¬ k0_cond4 i = 1#1)
    (arg2 : Memref sig .tc .vmem S384x7424 .fp8e4m3) (harg2 : arg2.IsWhole)
    (arg3 : Memref sig .tc .vmem S384x1 .f32) (harg3 : arg3.IsWhole)
    (arg4 : Memref sig .tc .vmem S1024x7424 .fp8e4m3) (harg4 : arg4.IsWhole)
    (arg5 : Memref sig .tc .vmem S1x1024 .f32) (harg5 : arg5.IsWhole)
    (arg6 : Memref sig .tc .vmem S384x1 .f32) (harg6 : arg6.IsWhole)
    (arg7 : Memref sig .tc .vmem S384x1024 .fp8e4m3) (harg7 : arg7.IsWhole)
    (arg8 : Memref sig .tc .vmem S384x27648 .f32) (harg8 : arg8.IsWhole)
    (arg9 : Memref sig .tc .vmem S384x128 .f32) (harg9 : arg9.IsWhole)
    (arg10 : Memref sig .tc .vmem S384x1 .f32) (harg10 : arg10.IsWhole)
    (X2 : Vec F S384x7424 .fp8e4m3) (X3 : Vec F S384x1 .f32) (X4 : Vec F S1024x7424 .fp8e4m3) (X5 : Vec F S1x1024 .f32) (X6 : Vec F S384x1 .f32) (X7 : Vec F S384x1024 .fp8e4m3) (X8 : Vec F S384x27648 .f32) (X9 : Vec F S384x128 .f32) (X10 : Vec F S384x1 .f32)
    (K : PUnit → sProp 𝕄) :
    iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10
      ∗ ((owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare (k0_pay3 (yblk X8 (i 1)) X10) ∗ owns (c : Thread nD τ) arg8 fullShare (yput X8 (i 1) (k0_pay5 X2 X4 X3 X5)) ∗ owns (c : Thread nD τ) arg9 fullShare (amaxStep (i 1).val (k0_pay5 X2 X4 X3 X5) X9) ∗ owns (c : Thread nD τ) arg10 fullShare X10) -∗ K ⟨⟩))
    ⊢ wp frame (wpE (defs₀ (F := F)) Variants.none c none) Set.univ
        (cc0__body i arg2 harg2 arg3 harg3 arg4 harg4 arg5 harg5 arg6 harg6 arg7 harg7 arg8 harg8 arg9 harg9 arg10 harg10) K := by
  simp only [owns_eq_rep]
  simp only [cc0__body_eq_skeleton]; unfold cc0__body_skel
  iintro ⟨H2, H3, H4, H5, H6, H7, H8, H9, H10, Hk⟩
  sl_exec (disch := first | sl_exact h1 | sl_exact h2 | sl_exact h3 | sl_exact h4)
  sl_step
  iapply Hk
  isplitl [H2]
  · iexact H2
  isplitl [H3]
  · iexact H3
  isplitl [H4]
  · iexact H4
  isplitl [H5]
  · iexact H5
  isplitl [H6]
  · iexact H6
  isplitl [H7]
  · rewrite [← owns_eq_rep]; unfold owns; iexists _; isplitr; swap; · iexact H7
    ipureintro
    refine (View.read_writes_full _ _ _ _ _).trans ?_
    rw [View.readAt_rep_full arg10.view]
    exact congrArg (fun v => k0_pay3 v X10) (View.readAt_rep_unit arg8.view X8 _ (off_eq i) (yinb (i 1)))
  isplitl [H8]
  · rewrite [← owns_eq_rep]; unfold owns; iexists _; isplitr; swap; · iexact H8
    ipureintro
    refine (View.read_writes_rep_unit _ _ _ _ (off_eq i)).trans ?_
    rw [View.readAt_rep_full arg2.view, View.readAt_rep_full arg4.view, View.readAt_rep_full arg3.view, View.readAt_rep_full arg5.view]
    exact congrArg (yput X8 (i 1)) (pay10_eq X2 X4 X3 X5)
  isplitl [H9]
  · rewrite [← owns_eq_rep]; unfold owns; iexists _; isplitr; swap; · iexact H9
    ipureintro
    refine (View.read_writes_full _ _ _ _ _).trans ?_
    try delta runC.sl.r_4
    try delta runC.sl.r_3
    try delta runC.sl.r_2
    try delta runC.sl.r_1
    try delta runC.sl.r
    try delta runC.sl.v16
    try delta runC.sl.H9_1
    try delta runC.sl.r_4
    try delta runC.sl.r_3
    try delta runC.sl.r_2
    try delta runC.sl.r_1
    try delta runC.sl.r
    rw [View.readAt_rep_full arg2.view, View.readAt_rep_full arg4.view, View.readAt_rep_full arg3.view, View.readAt_rep_full arg5.view, View.readAt_rep_full arg9.view]
    exact pay2_eq i X2 X4 X3 X5 X9
  · iexact H10

/-- A middle row block, last block: as `runC`, then the scale and the reciprocal scale are written. -/
theorem runD (c : Dev nD) (i : grid0.Coords)
    (h1 : ¬ k0_cond1 i = 1#1) (h2 : k0_cond2 i = 1#1) (h3 : ¬ k0_cond3 i = 1#1) (h4 : k0_cond4 i = 1#1)
    (arg2 : Memref sig .tc .vmem S384x7424 .fp8e4m3) (harg2 : arg2.IsWhole)
    (arg3 : Memref sig .tc .vmem S384x1 .f32) (harg3 : arg3.IsWhole)
    (arg4 : Memref sig .tc .vmem S1024x7424 .fp8e4m3) (harg4 : arg4.IsWhole)
    (arg5 : Memref sig .tc .vmem S1x1024 .f32) (harg5 : arg5.IsWhole)
    (arg6 : Memref sig .tc .vmem S384x1 .f32) (harg6 : arg6.IsWhole)
    (arg7 : Memref sig .tc .vmem S384x1024 .fp8e4m3) (harg7 : arg7.IsWhole)
    (arg8 : Memref sig .tc .vmem S384x27648 .f32) (harg8 : arg8.IsWhole)
    (arg9 : Memref sig .tc .vmem S384x128 .f32) (harg9 : arg9.IsWhole)
    (arg10 : Memref sig .tc .vmem S384x1 .f32) (harg10 : arg10.IsWhole)
    (X2 : Vec F S384x7424 .fp8e4m3) (X3 : Vec F S384x1 .f32) (X4 : Vec F S1024x7424 .fp8e4m3) (X5 : Vec F S1x1024 .f32) (X6 : Vec F S384x1 .f32) (X7 : Vec F S384x1024 .fp8e4m3) (X8 : Vec F S384x27648 .f32) (X9 : Vec F S384x128 .f32) (X10 : Vec F S384x1 .f32)
    (K : PUnit → sProp 𝕄) :
    iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10
      ∗ ((owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare (k0_pay14 (amaxStep (i 1).val (k0_pay5 X2 X4 X3 X5) X9)) ∗ owns (c : Thread nD τ) arg7 fullShare (k0_pay3 (yblk X8 (i 1)) X10) ∗ owns (c : Thread nD τ) arg8 fullShare (yput X8 (i 1) (k0_pay5 X2 X4 X3 X5)) ∗ owns (c : Thread nD τ) arg9 fullShare (amaxStep (i 1).val (k0_pay5 X2 X4 X3 X5) X9) ∗ owns (c : Thread nD τ) arg10 fullShare (invOf (amaxStep (i 1).val (k0_pay5 X2 X4 X3 X5) X9))) -∗ K ⟨⟩))
    ⊢ wp frame (wpE (defs₀ (F := F)) Variants.none c none) Set.univ
        (cc0__body i arg2 harg2 arg3 harg3 arg4 harg4 arg5 harg5 arg6 harg6 arg7 harg7 arg8 harg8 arg9 harg9 arg10 harg10) K := by
  simp only [owns_eq_rep]
  simp only [cc0__body_eq_skeleton]; unfold cc0__body_skel
  iintro ⟨H2, H3, H4, H5, H6, H7, H8, H9, H10, Hk⟩
  sl_exec (disch := first | sl_exact h1 | sl_exact h2 | sl_exact h3 | sl_exact h4)
  sl_step
  iapply Hk
  isplitl [H2]
  · iexact H2
  isplitl [H3]
  · iexact H3
  isplitl [H4]
  · iexact H4
  isplitl [H5]
  · iexact H5
  isplitl [H6]
  · rewrite [← owns_eq_rep]; unfold owns; iexists _; isplitr; swap; · iexact H6
    ipureintro
    refine (View.read_writes_full _ _ _ _ _).trans ?_
    try delta runD.sl.r_4
    try delta runD.sl.r_3
    try delta runD.sl.r_2
    try delta runD.sl.r_1
    try delta runD.sl.r
    try delta runD.sl.v16
    try delta runD.sl.H9_1
    try delta runD.sl.r_4
    try delta runD.sl.r_3
    try delta runD.sl.r_2
    try delta runD.sl.r_1
    try delta runD.sl.r
    rw [View.readCov_full, View.readAt_rep_full arg2.view, View.readAt_rep_full arg4.view, View.readAt_rep_full arg3.view, View.readAt_rep_full arg5.view, View.readAt_rep_full arg9.view]
    exact congrArg k0_pay14 (pay2_eq i X2 X4 X3 X5 X9)
  isplitl [H7]
  · rewrite [← owns_eq_rep]; unfold owns; iexists _; isplitr; swap; · iexact H7
    ipureintro
    refine (View.read_writes_full _ _ _ _ _).trans ?_
    rw [View.readAt_rep_full arg10.view]
    exact congrArg (fun v => k0_pay3 v X10) (View.readAt_rep_unit arg8.view X8 _ (off_eq i) (yinb (i 1)))
  isplitl [H8]
  · rewrite [← owns_eq_rep]; unfold owns; iexists _; isplitr; swap; · iexact H8
    ipureintro
    refine (View.read_writes_rep_unit _ _ _ _ (off_eq i)).trans ?_
    rw [View.readAt_rep_full arg2.view, View.readAt_rep_full arg4.view, View.readAt_rep_full arg3.view, View.readAt_rep_full arg5.view]
    exact congrArg (yput X8 (i 1)) (pay10_eq X2 X4 X3 X5)
  isplitl [H9]
  · rewrite [← owns_eq_rep]; unfold owns; iexists _; isplitr; swap; · iexact H9
    ipureintro
    refine (View.read_writes_full _ _ _ _ _).trans ?_
    try delta runD.sl.r_4
    try delta runD.sl.r_3
    try delta runD.sl.r_2
    try delta runD.sl.r_1
    try delta runD.sl.r
    try delta runD.sl.v16
    try delta runD.sl.H9_1
    try delta runD.sl.r_4
    try delta runD.sl.r_3
    try delta runD.sl.r_2
    try delta runD.sl.r_1
    try delta runD.sl.r
    rw [View.readAt_rep_full arg2.view, View.readAt_rep_full arg4.view, View.readAt_rep_full arg3.view, View.readAt_rep_full arg5.view, View.readAt_rep_full arg9.view]
    exact pay2_eq i X2 X4 X3 X5 X9
  · rewrite [← owns_eq_rep]; unfold owns; iexists _; isplitr; swap; · iexact H10
    ipureintro
    refine (View.read_writes_full _ _ _ _ _).trans ?_
    try delta runD.sl.r_4
    try delta runD.sl.r_3
    try delta runD.sl.r_2
    try delta runD.sl.r_1
    try delta runD.sl.r
    try delta runD.sl.v16
    try delta runD.sl.H9_1
    try delta runD.sl.r_4
    try delta runD.sl.r_3
    try delta runD.sl.r_2
    try delta runD.sl.r_1
    try delta runD.sl.r
    rw [View.readCov_full, View.readAt_rep_full arg2.view, View.readAt_rep_full arg4.view, View.readAt_rep_full arg3.view, View.readAt_rep_full arg5.view, View.readAt_rep_full arg9.view]
    exact congrArg invOf (pay2_eq i X2 X4 X3 X5 X9)

/-- After the last row block: the kept block is quantised. -/
theorem runE (c : Dev nD) (i : grid0.Coords)
    (h1 : ¬ k0_cond1 i = 1#1) (h2 : ¬ k0_cond2 i = 1#1) (h3 : k0_cond3 i = 1#1) (h4 : ¬ k0_cond4 i = 1#1)
    (arg2 : Memref sig .tc .vmem S384x7424 .fp8e4m3) (harg2 : arg2.IsWhole)
    (arg3 : Memref sig .tc .vmem S384x1 .f32) (harg3 : arg3.IsWhole)
    (arg4 : Memref sig .tc .vmem S1024x7424 .fp8e4m3) (harg4 : arg4.IsWhole)
    (arg5 : Memref sig .tc .vmem S1x1024 .f32) (harg5 : arg5.IsWhole)
    (arg6 : Memref sig .tc .vmem S384x1 .f32) (harg6 : arg6.IsWhole)
    (arg7 : Memref sig .tc .vmem S384x1024 .fp8e4m3) (harg7 : arg7.IsWhole)
    (arg8 : Memref sig .tc .vmem S384x27648 .f32) (harg8 : arg8.IsWhole)
    (arg9 : Memref sig .tc .vmem S384x128 .f32) (harg9 : arg9.IsWhole)
    (arg10 : Memref sig .tc .vmem S384x1 .f32) (harg10 : arg10.IsWhole)
    (X2 : Vec F S384x7424 .fp8e4m3) (X3 : Vec F S384x1 .f32) (X4 : Vec F S1024x7424 .fp8e4m3) (X5 : Vec F S1x1024 .f32) (X6 : Vec F S384x1 .f32) (X7 : Vec F S384x1024 .fp8e4m3) (X8 : Vec F S384x27648 .f32) (X9 : Vec F S384x128 .f32) (X10 : Vec F S384x1 .f32)
    (K : PUnit → sProp 𝕄) :
    iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10
      ∗ ((owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare (k0_pay3 (yblk X8 (i 1)) X10) ∗ owns (c : Thread nD τ) arg8 fullShare X8 ∗ owns (c : Thread nD τ) arg9 fullShare X9 ∗ owns (c : Thread nD τ) arg10 fullShare X10) -∗ K ⟨⟩))
    ⊢ wp frame (wpE (defs₀ (F := F)) Variants.none c none) Set.univ
        (cc0__body i arg2 harg2 arg3 harg3 arg4 harg4 arg5 harg5 arg6 harg6 arg7 harg7 arg8 harg8 arg9 harg9 arg10 harg10) K := by
  simp only [owns_eq_rep]
  simp only [cc0__body_eq_skeleton]; unfold cc0__body_skel
  iintro ⟨H2, H3, H4, H5, H6, H7, H8, H9, H10, Hk⟩
  sl_exec (disch := first | sl_exact h1 | sl_exact h2 | sl_exact h3 | sl_exact h4)
  sl_step
  iapply Hk
  isplitl [H2]
  · iexact H2
  isplitl [H3]
  · iexact H3
  isplitl [H4]
  · iexact H4
  isplitl [H5]
  · iexact H5
  isplitl [H6]
  · iexact H6
  isplitl [H7]
  · rewrite [← owns_eq_rep]; unfold owns; iexists _; isplitr; swap; · iexact H7
    ipureintro
    refine (View.read_writes_full _ _ _ _ _).trans ?_
    rw [View.readAt_rep_full arg10.view]
    exact congrArg (fun v => k0_pay3 v X10) (View.readAt_rep_unit arg8.view X8 _ (off_eq i) (yinb (i 1)))
  isplitl [H8]
  · iexact H8
  isplitl [H9]
  · iexact H9
  · iexact H10

end Cert.KernelIdeal.Hand

end
-- ==== Proof.KI.Sched.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.TableIdle
public import Idealize.ShloMosaic.Lib.Pipeline.Value
public import Idealize.ShloMosaic.Lib.VecWindow
public import Idealize.ShloMosaic.Lib.Tactic
public import proofs.«01_k».proof.Proof.KI.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra. -/
local notation "𝕄" => MT nD τ sig Unit (Elt F) ℕ (UR sig nD τ) ℕ

/-! ## The grid: point `t` is row block `t / 27`, column block `t % 27` -/

theorem lt_N (t : Fin cfg0.N) : t.val < 891 := lt_of_lt_of_eq t.isLt N_0

theorem row_eq (t : Fin cfg0.N) : (grid0.coords t 0).val = t.val / 27 := by
  rw [Pipeline.Grid.coords_val (G := grid0) t 0 (S := 27) (B := 33) (by decide) rfl]
  have := lt_N t; omega

theorem col_eq (t : Fin cfg0.N) : (grid0.coords t 1).val = t.val % 27 := by
  rw [Pipeline.Grid.coords_val (G := grid0) t 1 (S := 1) (B := 27) (by decide) rfl]
  omega

/-- The column block of point `t`. -/
def col (n : ℕ) : Fin 27 := ⟨n % 27, Nat.mod_lt _ (by omega)⟩

theorem coords_col (t : Fin cfg0.N) : grid0.coords t 1 = col t.val := Fin.ext (col_eq t)

theorem cond1_iff (i : grid0.Coords) : k0_cond1 i = 1#1 ↔ (i 0).val = 0 := by
  have h : ∀ a : Fin 33, Scalar.cmpi .ne (Scalar.extui (Scalar.cmpi .eq (BitVec.ofNat 32 a.val) 0#32) : BitVec 32) 0#32 = 1#1 ↔ a.val = 0 := by decide
  exact h (i 0)

theorem cond2_iff (i : grid0.Coords) : k0_cond2 i = 1#1 ↔ 0 < (i 0).val ∧ (i 0).val < 32 := by
  have h : ∀ a : Fin 33, Scalar.cmpi .ne (Scalar.extui (Scalar.andi (Scalar.cmpi .sgt (BitVec.ofNat 32 a.val) 0#32) (Scalar.cmpi .slt (BitVec.ofNat 32 a.val) 32#32)) : BitVec 32) 0#32 = 1#1
      ↔ 0 < a.val ∧ a.val < 32 := by decide
  exact h (i 0)

theorem cond3_iff (i : grid0.Coords) : k0_cond3 i = 1#1 ↔ (i 0).val = 32 := by
  have h : ∀ a : Fin 33, Scalar.cmpi .ne (Scalar.extui (Scalar.cmpi .eq (BitVec.ofNat 32 a.val) 32#32) : BitVec 32) 0#32 = 1#1 ↔ a.val = 32 := by decide
  exact h (i 0)

theorem cond4_iff (i : grid0.Coords) : k0_cond4 i = 1#1 ↔ (i 1).val = 26 ∧ (i 0).val < 32 := by
  have h : ∀ a : Fin 33, ∀ b : Fin 27, Scalar.cmpi .ne (Scalar.extui (Scalar.andi (Scalar.cmpi .eq (BitVec.ofNat 32 b.val) 26#32) (Scalar.cmpi .slt (BitVec.ofNat 32 a.val) 32#32)) : BitVec 32) 0#32 = 1#1
      ↔ b.val = 26 ∧ a.val < 32 := by decide
  exact h (i 0) (i 1)

/-- The first result's window is written at the last block of a row block, of which there are 32. -/
theorem idle4_false (t : Fin cfg0.N) (h : t.val % 27 = 26 ∧ t.val / 27 < 32) : idle0 4 (grid0.coords t) = false := by
  have e : k0_cond4 (grid0.coords t) = 1#1 := (cond4_iff _).2 (by rw [row_eq, col_eq]; exact h)
  show (!(k0_cond4 (grid0.coords t) == 1#1)) = false
  rw [e]; rfl

theorem idle4_true (t : Fin cfg0.N) (h : ¬ (t.val % 27 = 26 ∧ t.val / 27 < 32)) : idle0 4 (grid0.coords t) = true := by
  have e : ¬ k0_cond4 (grid0.coords t) = 1#1 := fun e => h (by have := (cond4_iff _).1 e; rwa [row_eq, col_eq] at this)
  show (!(k0_cond4 (grid0.coords t) == 1#1)) = true
  rw [beq_eq_false_iff_ne.2 e]; rfl

/-- The codes' window is written at every point after the first row block. -/
theorem idle5_true (t : Fin cfg0.N) (h : t.val / 27 = 0) : idle0 5 (grid0.coords t) = true := by
  have e2 : ¬ k0_cond2 (grid0.coords t) = 1#1 := fun e => by have := (cond2_iff _).1 e; rw [row_eq] at this; omega
  have e3 : ¬ k0_cond3 (grid0.coords t) = 1#1 := fun e => by have := (cond3_iff _).1 e; rw [row_eq] at this; omega
  show (!(k0_cond2 (grid0.coords t) == 1#1) && !(k0_cond3 (grid0.coords t) == 1#1)) = true
  rw [beq_eq_false_iff_ne.2 e2, beq_eq_false_iff_ne.2 e3]; rfl

theorem idle5_false (t : Fin cfg0.N) (h : 0 < t.val / 27) : idle0 5 (grid0.coords t) = false := by
  show (!(k0_cond2 (grid0.coords t) == 1#1) && !(k0_cond3 (grid0.coords t) == 1#1)) = false
  by_cases h3 : t.val / 27 = 32
  · have e3 : k0_cond3 (grid0.coords t) = 1#1 := (cond3_iff _).2 (by rw [row_eq]; exact h3)
    rw [e3, Bool.and_comm]; rfl
  · have e2 : k0_cond2 (grid0.coords t) = 1#1 := (cond2_iff _).2 (by rw [row_eq]; have := lt_N t; omega)
    rw [e2]; rfl

/-- The first result's block is written back after the last point of each of the first 31 row blocks and after the last
    point of the grid. -/
theorem flush4_iff : ∀ t : Fin cfg0.N, (cfg0.win 4).flush t = (decide (t.val % 27 = 26 ∧ t.val / 27 < 31) || decide (t.val = 890)) := by
  intro t
  rw [Pipeline.Window.flush_eq_flushF]
  revert t
  decide +kernel

/-- The codes' block is written back after every point but those of the first row block. -/
theorem flush5_iff : ∀ t : Fin cfg0.N, (cfg0.win 5).flush t = decide (27 ≤ t.val) := by
  intro t
  rw [Pipeline.Window.flush_eq_flushF]
  revert t
  decide +kernel

end Cert.KernelIdeal.Hand

end
-- ==== Proof.KI.Track.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.TableIdle
public import Idealize.ShloMosaic.Lib.Pipeline.Value
public import Idealize.ShloMosaic.Lib.VecWindow
public import Idealize.ShloMosaic.Lib.Tactic
public import proofs.«01_k».proof.Proof.KI.Body
public import proofs.«01_k».proof.Proof.KI.Sched

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra. -/
local notation "𝕄" => MT nD τ sig Unit (Elt F) ℕ (UR sig nD τ) ℕ

variable (m : (ℓ : Loc nD τ sig) → Buf (Elt F) ℓ) (ρ : Dev nD → PrngReg)

/-! ## The values of the whole run, by row block and column block -/

/-- The grid point of row block `i`, column block `j`. -/
def pt (i j : ℕ) : Fin cfg0.N := ⟨min (27 * i + j) 890, lt_of_le_of_lt (min_le_right _ _) (lt_of_lt_of_eq (by decide : 890 < 891) N_0.symm)⟩

theorem pt_self (t : Fin cfg0.N) : pt (t.val / 27) (t.val % 27) = t := by
  refine Fin.ext ?_
  show min (27 * (t.val / 27) + t.val % 27) 890 = t.val
  have := lt_N t
  omega

/-- Block `(i, j)` of the scaled product. -/
def Yv (c : Dev nD) (i j : ℕ) : FVec F S384x1024 .f32 :=
  k0_pay5 (iblk m c 0 (pt i j)) (iblk m c 2 (pt i j)) (iblk m c 1 (pt i j)) (iblk m c 3 (pt i j))

theorem Yv_self (c : Dev nD) (t : Fin cfg0.N) :
    k0_pay5 (iblk m c 0 t) (iblk m c 2 t) (iblk m c 1 t) (iblk m c 3 t) = Yv m c (t.val / 27) (t.val % 27) := by
  unfold Yv
  rw [pt_self]

/-- The lane maxima of row block `i` over its column blocks `0 ... j`. -/
def Av (c : Dev nD) (i : ℕ) : ℕ → FVec F S384x128 .f32
  | 0 => laneMax (Yv m c i 0)
  | j + 1 => maximumf (Av c i j) (laneMax (Yv m c i (j + 1)))

theorem amaxStep_zero (y : FVec F S384x1024 .f32) (a : FVec F S384x128 .f32) : amaxStep 0 y a = laneMax y := rfl

theorem amaxStep_pos (j : ℕ) (h0 : 0 < j) (hj : j < 27) (y : FVec F S384x1024 .f32) (a : FVec F S384x128 .f32) :
    amaxStep j y a = maximumf a (laneMax y) := by
  have h : ∀ j : Fin 27, 0 < j.val → Scalar.cmpi .eq (BitVec.ofNat 32 j.val) 0#32 = 0#1 := by decide
  unfold amaxStep
  rw [h ⟨j, hj⟩ h0]
  rfl

theorem amaxStep_Av (c : Dev nD) (i j : ℕ) (hj : j < 27) (a : FVec F S384x128 .f32) (ha : 0 < j → a = Av m c i (j - 1)) :
    amaxStep j (Yv m c i j) a = Av m c i j := by
  cases j with
  | zero => rw [amaxStep_zero]; rfl
  | succ j =>
    rw [amaxStep_pos _ (Nat.succ_pos _) hj, ha (Nat.succ_pos _)]
    rfl

/-- What the kernel's scratch holds before point `n`: of the kept row block, the column blocks already visited in this row block
    hold this row block's product and the others the previous row block's; the lane maxima are those of the blocks visited; the
    reciprocal scale is the previous row block's. -/
structure Inv (c : Dev nD) (n : ℕ) (x : Vec F S384x27648 .f32) (a : Vec F S384x128 .f32) (v : Vec F S384x1 .f32) : Prop where
  new : ∀ j : Fin 27, j.val < n % 27 → n / 27 < 32 → yblk x j = Yv m c (n / 27) j.val
  old : ∀ j : Fin 27, ¬ (j.val < n % 27 ∧ n / 27 < 32) → 1 ≤ n / 27 → yblk x j = Yv m c (min (n / 27 - 1) 31) j.val
  amax : 0 < n % 27 → n / 27 < 32 → a = Av m c (n / 27) (n % 27 - 1)
  inv : 1 ≤ n / 27 → v = invOf (Av m c (min (n / 27 - 1) 31) 26)

theorem yblk_yput_same (x : Vec F S384x27648 .f32) (j : Fin 27) (y : Vec F S384x1024 .f32) : yblk (yput x j y) j = y :=
  VecWindow.window_put_same x _ _ _ _

theorem yblk_yput_ne (x : Vec F S384x27648 .f32) (j k : Fin 27) (h : k ≠ j) (y : Vec F S384x1024 .f32) : yblk (yput x j y) k = yblk x k :=
  VecWindow.window_put_of_disjoint x _ _ _ _ (yinb k) _ 1 (by
    have : k.val ≠ j.val := fun e => h (Fin.ext e)
    show k.val * 1024 + 1024 ≤ j.val * 1024 ∨ j.val * 1024 + 1024 ≤ k.val * 1024
    omega)

/-- Before the first point nothing is claimed. -/
theorem inv_zero (c : Dev nD) (x : Vec F S384x27648 .f32) (a : Vec F S384x128 .f32) (v : Vec F S384x1 .f32) : Inv m c 0 x a v where
  new j h := absurd h (by omega)
  old j h h1 := absurd h1 (by omega)
  amax h := absurd h (by omega)
  inv h := absurd h (by omega)

theorem Inv.amaxStep_eq {c : Dev nD} {n : ℕ} {x : Vec F S384x27648 .f32} {a : Vec F S384x128 .f32} {v : Vec F S384x1 .f32}
    (h : Inv m c n x a v) (hi : n / 27 < 32) : amaxStep (n % 27) (Yv m c (n / 27) (n % 27)) a = Av m c (n / 27) (n % 27) :=
  amaxStep_Av m c _ _ (Nat.mod_lt _ (by omega)) a fun h0 => h.amax h0 hi

/-- A point that computes a block and is not the last of its row block. -/
theorem Inv.mid {c : Dev nD} {n : ℕ} {x : Vec F S384x27648 .f32} {a : Vec F S384x128 .f32} {v : Vec F S384x1 .f32}
    (h : Inv m c n x a v) (hi : n / 27 < 32) (hj : n % 27 < 26) :
    Inv m c (n + 1) (yput x (col n) (Yv m c (n / 27) (n % 27))) (Av m c (n / 27) (n % 27)) v := by
  have e1 : (n + 1) / 27 = n / 27 := by omega
  have e2 : (n + 1) % 27 = n % 27 + 1 := by omega
  constructor
  · intro j hlt _
    rw [e2] at hlt
    rw [e1]
    by_cases hjn : j = col n
    · subst hjn
      exact yblk_yput_same x _ _
    · rw [yblk_yput_ne x _ _ hjn]
      exact h.new j (by have : j.val ≠ n % 27 := fun e => hjn (Fin.ext e); omega) hi
  · intro j hnot h1
    rw [e1, e2] at hnot
    rw [e1] at h1 ⊢
    have hjn : j ≠ col n := fun e => hnot ⟨by rw [e]; show n % 27 < _; omega, hi⟩
    rw [yblk_yput_ne x _ _ hjn]
    exact h.old j (fun hh => hnot ⟨by omega, hi⟩) h1
  · intro _ _
    rw [e1, e2]
    rfl
  · intro h1
    rw [e1] at h1 ⊢
    exact h.inv h1

/-- The last point of a row block. -/
theorem Inv.last {c : Dev nD} {n : ℕ} {x : Vec F S384x27648 .f32} {a : Vec F S384x128 .f32} {v : Vec F S384x1 .f32}
    (h : Inv m c n x a v) (hi : n / 27 < 32) (hj : n % 27 = 26) (a' : Vec F S384x128 .f32) :
    Inv m c (n + 1) (yput x (col n) (Yv m c (n / 27) (n % 27))) a' (invOf (Av m c (n / 27) (n % 27))) := by
  have e1 : (n + 1) / 27 = n / 27 + 1 := by omega
  have e2 : (n + 1) % 27 = 0 := by omega
  have e3 : min (n / 27 + 1 - 1) 31 = n / 27 := by omega
  constructor
  · intro j hlt _
    rw [e2] at hlt
    omega
  · intro j _ _
    rw [e1, e3]
    by_cases hjn : j = col n
    · subst hjn
      exact yblk_yput_same x _ _
    · rw [yblk_yput_ne x _ _ hjn]
      exact h.new j (by have : j.val ≠ n % 27 := fun e => hjn (Fin.ext e); have := j.isLt; omega) hi
  · intro h0
    rw [e2] at h0
    omega
  · intro _
    rw [e1, e3, hj]

/-- A point after the last row block changes nothing it keeps. -/
theorem Inv.tail {c : Dev nD} {n : ℕ} {x : Vec F S384x27648 .f32} {a : Vec F S384x128 .f32} {v : Vec F S384x1 .f32}
    (h : Inv m c n x a v) (hi : n / 27 = 32) : Inv m c (n + 1) x a v := by
  have hge : 32 ≤ (n + 1) / 27 := by omega
  have e3 : min ((n + 1) / 27 - 1) 31 = min (n / 27 - 1) 31 := by omega
  constructor
  · intro j _ hlt
    omega
  · intro j _ _
    rw [e3]
    exact h.old j (fun hh => by omega) (by omega)
  · intro _ hlt
    omega
  · intro _
    rw [e3]
    exact h.inv (by omega)

/-- The codes a point after the first row block writes are those of the previous row block. -/
theorem Inv.codes {c : Dev nD} {n : ℕ} {x : Vec F S384x27648 .f32} {a : Vec F S384x128 .f32} {v : Vec F S384x1 .f32}
    (h : Inv m c n x a v) (h1 : 1 ≤ n / 27) :
    k0_pay3 (yblk x (col n)) v
      = k0_pay3 (Yv m c (min (n / 27 - 1) 31) (n % 27)) (invOf (Av m c (min (n / 27 - 1) 31) 26)) := by
  rw [h.inv h1, h.old (col n) (fun hh => by have : (col n).val = n % 27 := rfl; omega) h1]
  rfl

end Cert.KernelIdeal.Hand

end
-- ==== Proof.KI.Frame.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.TableIdle
public import Idealize.ShloMosaic.Lib.Pipeline.Value
public import Idealize.ShloMosaic.Lib.VecWindow
public import Idealize.ShloMosaic.Lib.Tactic
public import proofs.«01_k».proof.Proof.KI.Track

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra. -/
local notation "𝕄" => MT nD τ sig Unit (Elt F) ℕ (UR sig nD τ) ℕ

variable (m : (ℓ : Loc nD τ sig) → Buf (Elt F) ℓ) (ρ : Dev nD → PrngReg)

/-! ## What the scratch and the windows hold, point by point -/

/-- The scratch before point `n`, at contents that `Inv` describes, and the core's generator register. -/
def scr (c : Dev nD) (n : ℕ) : sProp 𝕄 :=
  iprop((∃ x a v, ⌜Inv m c n x a v⌝ ∗ owns (c : Thread nD τ) (Memref.whole cc0_scratch0) fullShare x
      ∗ owns (c : Thread nD τ) (Memref.whole cc0_scratch1) fullShare a ∗ owns (c : Thread nD τ) (Memref.whole cc0_scratch2) fullShare v)
    ∗ ∃ r, prngReg c r)

/-- The scale block of point `t`: that of its row block, the last row block's after it. -/
def scaleAt (c : Dev nD) (t : Fin cfg0.N) : FVec F S384x1 .f32 := k0_pay14 (Av m c (min (t.val / 27) 31) 26)

/-- The codes block of point `t`: the previous row block's, at this column block. -/
def codesAt (c : Dev nD) (t : Fin cfg0.N) : FVec F S384x1024 .fp8e4m3 :=
  k0_pay3 (Yv m c (min (t.val / 27 - 1) 31) (t.val % 27)) (invOf (Av m c (min (t.val / 27 - 1) 31) 26))

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => scaleAt m c t
    | ⟨5, _⟩ => codesAt m c t
  Φ t := scr m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = scaleAt m c t := by dsimp only [dats]
theorem after_5 (c : Dev nD) (t : Fin cfg0.N) : (dats m 0 c).after 5 t = codesAt m c t := by dsimp only [dats]

theorem before_0 (c : Dev nD) (t : Fin cfg0.N) (d) : (dats m 0 c).before 0 t d = iblk m c 0 t := before0_0_of m _ (A_eq m c 0) (after_0 m c) t d
theorem before_1 (c : Dev nD) (t : Fin cfg0.N) (d) : (dats m 0 c).before 1 t d = iblk m c 1 t := before0_1_of m _ (A_eq m c 1) (after_1 m c) t d
theorem before_2 (c : Dev nD) (t : Fin cfg0.N) (d) : (dats m 0 c).before 2 t d = iblk m c 2 t := before0_2_of m _ (A_eq m c 2) (after_2 m c) t d
theorem before_3 (c : Dev nD) (t : Fin cfg0.N) (d) : (dats m 0 c).before 3 t d = iblk m c 3 t := before0_3_of m _ (A_eq m c 3) (after_3 m c) t d

/-- The last point finds in the scale's buffer the last row block's scale, unwritten since the row block's last point. -/
theorem before_4_last (c : Dev nD) (t : Fin cfg0.N) (h : t.val = 890) (d) : (dats m 0 c).before 4 t d = (dats m 0 c).after 4 t := by
  have hfetch : ∀ t, (cfg0.win 4).fetch t = false := fun t => (cfg0.win 4).fetch_out rfl t
  rw [(dats m 0 c).before_idle_run 4 hfetch d 26 t (by omega) (fun j h1 h2 => ⟨idle4_true j (by omega), by
    rw [flush4_iff]; simp only [Bool.or_eq_false_iff, decide_eq_false_iff_not]; omega⟩)]
  rw [(dats m 0 c).before_of_pos 4 _ (by show t.val - 26 ≠ 0; omega) (hfetch _)]
  rw [if_neg (by
    rw [flush4_iff]; simp only [Bool.or_eq_true, decide_eq_true_eq]; omega)]
  unfold Dat.left
  rw [show cfg0.idle 4 (grid0.coords ⟨t.val - 26 - 1, Nat.lt_of_le_of_lt (Nat.sub_le _ _) (Nat.lt_of_le_of_lt (Nat.sub_le _ _) t.isLt)⟩) = false from
    idle4_false _ (by show (t.val - 26 - 1) % 27 = 26 ∧ (t.val - 26 - 1) / 27 < 32; omega)]
  show (dats m 0 c).after 4 _ = _
  rw [after_4, after_4]
  unfold scaleAt
  rw [show min ((t.val - 26 - 1) / 27) 31 = min (t.val / 27) 31 by omega]

/-- What the body leaves in the scale's buffer: the scale where it writes it or the block goes back, else what it found. -/
def left4 (c : Dev nD) (t : Fin cfg0.N) : sProp 𝕄 :=
  match idle0 4 (grid0.coords t) with
  | true =>
    match (cfg0.win 4).flush t with
    | false => iprop(∃ d, owns (c : Thread nD τ) (st0_4 t) fullShare ((dats m 0 c).before 4 t d))
    | true => owns (c : Thread nD τ) (st0_4 t) fullShare ((dats m 0 c).after 4 t)
  | false => owns (c : Thread nD τ) (st0_4 t) fullShare ((dats m 0 c).after 4 t)

/-- What the body leaves in the codes' buffer. -/
def left5 (c : Dev nD) (t : Fin cfg0.N) : sProp 𝕄 :=
  match idle0 5 (grid0.coords t) with
  | true =>
    match (cfg0.win 5).flush t with
    | false => iprop(∃ d, owns (c : Thread nD τ) (st0_5 t) fullShare ((dats m 0 c).before 5 t d))
    | true => owns (c : Thread nD τ) (st0_5 t) fullShare ((dats m 0 c).after 5 t)
  | false => owns (c : Thread nD τ) (st0_5 t) fullShare ((dats m 0 c).after 5 t)

theorem left4_written (c : Dev nD) (t : Fin cfg0.N) (h : t.val % 27 = 26 ∧ t.val / 27 < 32) (X : Vec F S384x1 .f32) (hX : X = scaleAt m c t) :
    owns (c : Thread nD τ) (st0_4 t) fullShare X ⊢ left4 m c t := by
  subst hX
  unfold left4
  rw [idle4_false t h, after_4]

theorem left4_kept (c : Dev nD) (t : Fin cfg0.N) (h : ¬ (t.val % 27 = 26 ∧ t.val / 27 < 32)) (d) :
    owns (c : Thread nD τ) (st0_4 t) fullShare ((dats m 0 c).before 4 t d) ⊢ left4 m c t := by
  unfold left4
  rw [idle4_true t h]
  by_cases hl : t.val = 890
  · rw [show (cfg0.win 4).flush t = true from (flush4_iff t).trans (by simp [hl]), before_4_last m c t hl d]
  · rw [show (cfg0.win 4).flush t = false from (flush4_iff t).trans (by simp only [Bool.or_eq_false_iff, decide_eq_false_iff_not]; omega)]
    dsimp only
    iintro H
    iexists d
    iexact H

theorem left5_written (c : Dev nD) (t : Fin cfg0.N) (h : 0 < t.val / 27) (X : Vec F S384x1024 .fp8e4m3) (hX : X = codesAt m c t) :
    owns (c : Thread nD τ) (st0_5 t) fullShare X ⊢ left5 m c t := by
  subst hX
  unfold left5
  rw [idle5_false t h, after_5]

theorem left5_kept (c : Dev nD) (t : Fin cfg0.N) (h : t.val / 27 = 0) (d) :
    owns (c : Thread nD τ) (st0_5 t) fullShare ((dats m 0 c).before 5 t d) ⊢ left5 m c t := by
  unfold left5
  rw [idle5_true t h, show (cfg0.win 5).flush t = false from (flush5_iff t).trans (by simp only [decide_eq_false_iff_not]; omega)]
  dsimp only
  iintro H
  iexists d
  iexact H

/-! ## The body, at every point -/

/-- What the body is given at point `t`. -/
def bodyPre (c : Dev nD) (t : Fin cfg0.N) : sProp 𝕄 :=
  iprop(scr m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it gives back. -/
def bodyPost (c : Dev nD) (t : Fin cfg0.N) : sProp 𝕄 :=
  iprop(scr m c (t.val + 1) ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ left4 m c t ∗ left5 m c t)

theorem amax_self {c : Dev nD} {t : Fin cfg0.N} {x : Vec F S384x27648 .f32} {a : Vec F S384x128 .f32} {v : Vec F S384x1 .f32}
    (hI : Inv m c t.val x a v) (hi : t.val / 27 < 32) :
    amaxStep (grid0.coords t 1).val (k0_pay5 (iblk m c 0 t) (iblk m c 2 t) (iblk m c 1 t) (iblk m c 3 t)) a = Av m c (t.val / 27) (t.val % 27) := by
  rw [Yv_self, col_eq]
  exact hI.amaxStep_eq m hi

theorem mid_self {c : Dev nD} {t : Fin cfg0.N} {x : Vec F S384x27648 .f32} {a : Vec F S384x128 .f32} {v : Vec F S384x1 .f32}
    (hI : Inv m c t.val x a v) (hi : t.val / 27 < 32) (hj : t.val % 27 < 26) :
    Inv m c (t.val + 1) (yput x (grid0.coords t 1) (k0_pay5 (iblk m c 0 t) (iblk m c 2 t) (iblk m c 1 t) (iblk m c 3 t)))
      (amaxStep (grid0.coords t 1).val (k0_pay5 (iblk m c 0 t) (iblk m c 2 t) (iblk m c 1 t) (iblk m c 3 t)) a) v := by
  rw [amax_self m hI hi, coords_col, Yv_self]
  exact hI.mid m hi hj

theorem last_self {c : Dev nD} {t : Fin cfg0.N} {x : Vec F S384x27648 .f32} {a : Vec F S384x128 .f32} {v : Vec F S384x1 .f32}
    (hI : Inv m c t.val x a v) (hi : t.val / 27 < 32) (hj : t.val % 27 = 26) :
    Inv m c (t.val + 1) (yput x (grid0.coords t 1) (k0_pay5 (iblk m c 0 t) (iblk m c 2 t) (iblk m c 1 t) (iblk m c 3 t)))
      (amaxStep (grid0.coords t 1).val (k0_pay5 (iblk m c 0 t) (iblk m c 2 t) (iblk m c 1 t) (iblk m c 3 t)) a)
      (invOf (amaxStep (grid0.coords t 1).val (k0_pay5 (iblk m c 0 t) (iblk m c 2 t) (iblk m c 1 t) (iblk m c 3 t)) a)) := by
  rw [amax_self m hI hi, coords_col, Yv_self]
  exact hI.last m hi hj _

theorem scale_self {c : Dev nD} {t : Fin cfg0.N} {x : Vec F S384x27648 .f32} {a : Vec F S384x128 .f32} {v : Vec F S384x1 .f32}
    (hI : Inv m c t.val x a v) (hi : t.val / 27 < 32) (hj : t.val % 27 = 26) :
    k0_pay14 (amaxStep (grid0.coords t 1).val (k0_pay5 (iblk m c 0 t) (iblk m c 2 t) (iblk m c 1 t) (iblk m c 3 t)) a) = scaleAt m c t := by
  rw [amax_self m hI hi]
  unfold scaleAt
  rw [hj, show min (t.val / 27) 31 = t.val / 27 by omega]

theorem codes_self {c : Dev nD} {t : Fin cfg0.N} {x : Vec F S384x27648 .f32} {a : Vec F S384x128 .f32} {v : Vec F S384x1 .f32}
    (hI : Inv m c t.val x a v) (h1 : 0 < t.val / 27) : k0_pay3 (yblk x (grid0.coords t 1)) v = codesAt m c t := by
  rw [coords_col]
  exact hI.codes m h1

/-- The body at a point of the first row block, before its last column block. -/
theorem sound_A (c : Dev nD) (t : Fin cfg0.N) (hi : t.val / 27 = 0) (hj : t.val % 27 < 26) :
    bodyPre m c t ⊢ wp frame (wpE (defs₀ (F := F)) Variants.none c none) Set.univ (bodyAt0 t) (fun _ => bodyPost m c t) := by
  unfold bodyPre bodyPost bodyAt0 scr
  simp only [before_0, before_1, before_2, before_3]
  rw [after_0, after_1, after_2, after_3]
  unfold Dat.owesAt Pipeline.owesWithin
  rw [show (dats m 0 c).owed t.castSucc = 0 from rfl, show (dats m 0 c).owed t.succ = 0 from rfl]
  iintro ⟨⟨⟨%x, %a, %v, %hI, HS0, HS1, HS2⟩, Hg⟩, ⟨%W, -, HW⟩, ⟨%d0, H0⟩, ⟨%d1, H1⟩, ⟨%d2, H2⟩, ⟨%d3, H3⟩, ⟨%d4, H4⟩, ⟨%d5, H5⟩⟩
  iapply (runA c (grid0.coords t) ((cond1_iff _).2 (by rw [row_eq]; omega)) (fun e => by have := (cond2_iff _).1 e; rw [row_eq] at this; omega) (fun e => by have := (cond3_iff _).1 e; rw [row_eq] at this; omega) (fun e => by have := (cond4_iff _).1 e; rw [row_eq, col_eq] at this; omega) _ _ _ _ _ _ _ _ _ _ _ _ _ _ _ _ _ _ (iblk m c 0 t) (iblk m c 1 t) (iblk m c 2 t) (iblk m c 3 t) ((dats m 0 c).before 4 t d4) ((dats m 0 c).before 5 t d5) x a v _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitr [Hg]; swap; · iexact Hg
    iexists (yput x (grid0.coords t 1) (k0_pay5 (iblk m c 0 t) (iblk m c 2 t) (iblk m c 1 t) (iblk m c 3 t)))
    iexists (amaxStep (grid0.coords t 1).val (k0_pay5 (iblk m c 0 t) (iblk m c 2 t) (iblk m c 1 t) (iblk m c 3 t)) a)
    iexists v
    isplitr
    · ipureintro
      exact mid_self m hI (by omega) (by omega)
    isplitl [HS0]; · iexact HS0
    isplitl [HS1]; · iexact HS1
    iexact HS2
  isplitl [HW]
  · iexists W; isplitr
    · ipureintro; exact fun _ _ => Or.inl trivial
    iexact HW
  isplitl [H0]; · iexact H0
  isplitl [H1]; · iexact H1
  isplitl [H2]; · iexact H2
  isplitl [H3]; · iexact H3
  isplitl [H4]
  · iapply (left4_kept m c t (by omega) d4); iexact H4
  iapply (left5_kept m c t (by omega) d5); iexact H5

/-- The body at a point that ends the first row block. -/
theorem sound_B (c : Dev nD) (t : Fin cfg0.N) (hi : t.val / 27 = 0) (hj : t.val % 27 = 26) :
    bodyPre m c t ⊢ wp frame (wpE (defs₀ (F := F)) Variants.none c none) Set.univ (bodyAt0 t) (fun _ => bodyPost m c t) := by
  unfold bodyPre bodyPost bodyAt0 scr
  simp only [before_0, before_1, before_2, before_3]
  rw [after_0, after_1, after_2, after_3]
  unfold Dat.owesAt Pipeline.owesWithin
  rw [show (dats m 0 c).owed t.castSucc = 0 from rfl, show (dats m 0 c).owed t.succ = 0 from rfl]
  iintro ⟨⟨⟨%x, %a, %v, %hI, HS0, HS1, HS2⟩, Hg⟩, ⟨%W, -, HW⟩, ⟨%d0, H0⟩, ⟨%d1, H1⟩, ⟨%d2, H2⟩, ⟨%d3, H3⟩, ⟨%d4, H4⟩, ⟨%d5, H5⟩⟩
  iapply (runB c (grid0.coords t) ((cond1_iff _).2 (by rw [row_eq]; omega)) (fun e => by have := (cond2_iff _).1 e; rw [row_eq] at this; omega) (fun e => by have := (cond3_iff _).1 e; rw [row_eq] at this; omega) ((cond4_iff _).2 (by rw [row_eq, col_eq]; omega)) _ _ _ _ _ _ _ _ _ _ _ _ _ _ _ _ _ _ (iblk m c 0 t) (iblk m c 1 t) (iblk m c 2 t) (iblk m c 3 t) ((dats m 0 c).before 4 t d4) ((dats m 0 c).before 5 t d5) x a v _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitr [Hg]; swap; · iexact Hg
    iexists (yput x (grid0.coords t 1) (k0_pay5 (iblk m c 0 t) (iblk m c 2 t) (iblk m c 1 t) (iblk m c 3 t)))
    iexists (amaxStep (grid0.coords t 1).val (k0_pay5 (iblk m c 0 t) (iblk m c 2 t) (iblk m c 1 t) (iblk m c 3 t)) a)
    iexists (invOf (amaxStep (grid0.coords t 1).val (k0_pay5 (iblk m c 0 t) (iblk m c 2 t) (iblk m c 1 t) (iblk m c 3 t)) a))
    isplitr
    · ipureintro
      exact last_self m hI (by omega) (by omega)
    isplitl [HS0]; · iexact HS0
    isplitl [HS1]; · iexact HS1
    iexact HS2
  isplitl [HW]
  · iexists W; isplitr
    · ipureintro; exact fun _ _ => Or.inl trivial
    iexact HW
  isplitl [H0]; · iexact H0
  isplitl [H1]; · iexact H1
  isplitl [H2]; · iexact H2
  isplitl [H3]; · iexact H3
  isplitl [H4]
  · iapply (left4_written m c t (by omega) _ (scale_self m hI (by omega) (by omega))); iexact H4
  iapply (left5_kept m c t (by omega) d5); iexact H5

/-- The body at a point of a later row block, before its last column block. -/
theorem sound_C (c : Dev nD) (t : Fin cfg0.N) (hi : 0 < t.val / 27) (hi2 : t.val / 27 < 32) (hj : t.val % 27 < 26) :
    bodyPre m c t ⊢ wp frame (wpE (defs₀ (F := F)) Variants.none c none) Set.univ (bodyAt0 t) (fun _ => bodyPost m c t) := by
  unfold bodyPre bodyPost bodyAt0 scr
  simp only [before_0, before_1, before_2, before_3]
  rw [after_0, after_1, after_2, after_3]
  unfold Dat.owesAt Pipeline.owesWithin
  rw [show (dats m 0 c).owed t.castSucc = 0 from rfl, show (dats m 0 c).owed t.succ = 0 from rfl]
  iintro ⟨⟨⟨%x, %a, %v, %hI, HS0, HS1, HS2⟩, Hg⟩, ⟨%W, -, HW⟩, ⟨%d0, H0⟩, ⟨%d1, H1⟩, ⟨%d2, H2⟩, ⟨%d3, H3⟩, ⟨%d4, H4⟩, ⟨%d5, H5⟩⟩
  iapply (runC c (grid0.coords t) (fun e => by have := (cond1_iff _).1 e; rw [row_eq] at this; omega) ((cond2_iff _).2 (by rw [row_eq]; omega)) (fun e => by have := (cond3_iff _).1 e; rw [row_eq] at this; omega) (fun e => by have := (cond4_iff _).1 e; rw [row_eq, col_eq] at this; omega) _ _ _ _ _ _ _ _ _ _ _ _ _ _ _ _ _ _ (iblk m c 0 t) (iblk m c 1 t) (iblk m c 2 t) (iblk m c 3 t) ((dats m 0 c).before 4 t d4) ((dats m 0 c).before 5 t d5) x a v _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitr [Hg]; swap; · iexact Hg
    iexists (yput x (grid0.coords t 1) (k0_pay5 (iblk m c 0 t) (iblk m c 2 t) (iblk m c 1 t) (iblk m c 3 t)))
    iexists (amaxStep (grid0.coords t 1).val (k0_pay5 (iblk m c 0 t) (iblk m c 2 t) (iblk m c 1 t) (iblk m c 3 t)) a)
    iexists v
    isplitr
    · ipureintro
      exact mid_self m hI (by omega) (by omega)
    isplitl [HS0]; · iexact HS0
    isplitl [HS1]; · iexact HS1
    iexact HS2
  isplitl [HW]
  · iexists W; isplitr
    · ipureintro; exact fun _ _ => Or.inl trivial
    iexact HW
  isplitl [H0]; · iexact H0
  isplitl [H1]; · iexact H1
  isplitl [H2]; · iexact H2
  isplitl [H3]; · iexact H3
  isplitl [H4]
  · iapply (left4_kept m c t (by omega) d4); iexact H4
  iapply (left5_written m c t (by omega) _ (codes_self m hI (by omega))); iexact H5

/-- The body at a point that ends a later row block. -/
theorem sound_D (c : Dev nD) (t : Fin cfg0.N) (hi : 0 < t.val / 27) (hi2 : t.val / 27 < 32) (hj : t.val % 27 = 26) :
    bodyPre m c t ⊢ wp frame (wpE (defs₀ (F := F)) Variants.none c none) Set.univ (bodyAt0 t) (fun _ => bodyPost m c t) := by
  unfold bodyPre bodyPost bodyAt0 scr
  simp only [before_0, before_1, before_2, before_3]
  rw [after_0, after_1, after_2, after_3]
  unfold Dat.owesAt Pipeline.owesWithin
  rw [show (dats m 0 c).owed t.castSucc = 0 from rfl, show (dats m 0 c).owed t.succ = 0 from rfl]
  iintro ⟨⟨⟨%x, %a, %v, %hI, HS0, HS1, HS2⟩, Hg⟩, ⟨%W, -, HW⟩, ⟨%d0, H0⟩, ⟨%d1, H1⟩, ⟨%d2, H2⟩, ⟨%d3, H3⟩, ⟨%d4, H4⟩, ⟨%d5, H5⟩⟩
  iapply (runD c (grid0.coords t) (fun e => by have := (cond1_iff _).1 e; rw [row_eq] at this; omega) ((cond2_iff _).2 (by rw [row_eq]; omega)) (fun e => by have := (cond3_iff _).1 e; rw [row_eq] at this; omega) ((cond4_iff _).2 (by rw [row_eq, col_eq]; omega)) _ _ _ _ _ _ _ _ _ _ _ _ _ _ _ _ _ _ (iblk m c 0 t) (iblk m c 1 t) (iblk m c 2 t) (iblk m c 3 t) ((dats m 0 c).before 4 t d4) ((dats m 0 c).before 5 t d5) x a v _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitr [Hg]; swap; · iexact Hg
    iexists (yput x (grid0.coords t 1) (k0_pay5 (iblk m c 0 t) (iblk m c 2 t) (iblk m c 1 t) (iblk m c 3 t)))
    iexists (amaxStep (grid0.coords t 1).val (k0_pay5 (iblk m c 0 t) (iblk m c 2 t) (iblk m c 1 t) (iblk m c 3 t)) a)
    iexists (invOf (amaxStep (grid0.coords t 1).val (k0_pay5 (iblk m c 0 t) (iblk m c 2 t) (iblk m c 1 t) (iblk m c 3 t)) a))
    isplitr
    · ipureintro
      exact last_self m hI (by omega) (by omega)
    isplitl [HS0]; · iexact HS0
    isplitl [HS1]; · iexact HS1
    iexact HS2
  isplitl [HW]
  · iexists W; isplitr
    · ipureintro; exact fun _ _ => Or.inl trivial
    iexact HW
  isplitl [H0]; · iexact H0
  isplitl [H1]; · iexact H1
  isplitl [H2]; · iexact H2
  isplitl [H3]; · iexact H3
  isplitl [H4]
  · iapply (left4_written m c t (by omega) _ (scale_self m hI (by omega) (by omega))); iexact H4
  iapply (left5_written m c t (by omega) _ (codes_self m hI (by omega))); iexact H5

/-- The body at a point after the last row block. -/
theorem sound_E (c : Dev nD) (t : Fin cfg0.N) (hi : t.val / 27 = 32) :
    bodyPre m c t ⊢ wp frame (wpE (defs₀ (F := F)) Variants.none c none) Set.univ (bodyAt0 t) (fun _ => bodyPost m c t) := by
  unfold bodyPre bodyPost bodyAt0 scr
  simp only [before_0, before_1, before_2, before_3]
  rw [after_0, after_1, after_2, after_3]
  unfold Dat.owesAt Pipeline.owesWithin
  rw [show (dats m 0 c).owed t.castSucc = 0 from rfl, show (dats m 0 c).owed t.succ = 0 from rfl]
  iintro ⟨⟨⟨%x, %a, %v, %hI, HS0, HS1, HS2⟩, Hg⟩, ⟨%W, -, HW⟩, ⟨%d0, H0⟩, ⟨%d1, H1⟩, ⟨%d2, H2⟩, ⟨%d3, H3⟩, ⟨%d4, H4⟩, ⟨%d5, H5⟩⟩
  iapply (runE c (grid0.coords t) (fun e => by have := (cond1_iff _).1 e; rw [row_eq] at this; omega) (fun e => by have := (cond2_iff _).1 e; rw [row_eq] at this; omega) ((cond3_iff _).2 (by rw [row_eq]; omega)) (fun e => by have := (cond4_iff _).1 e; rw [row_eq, col_eq] at this; omega) _ _ _ _ _ _ _ _ _ _ _ _ _ _ _ _ _ _ (iblk m c 0 t) (iblk m c 1 t) (iblk m c 2 t) (iblk m c 3 t) ((dats m 0 c).before 4 t d4) ((dats m 0 c).before 5 t d5) x a v _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitr [Hg]; swap; · iexact Hg
    iexists x
    iexists a
    iexists v
    isplitr
    · ipureintro
      exact hI.tail m hi
    isplitl [HS0]; · iexact HS0
    isplitl [HS1]; · iexact HS1
    iexact HS2
  isplitl [HW]
  · iexists W; isplitr
    · ipureintro; exact fun _ _ => Or.inl trivial
    iexact HW
  isplitl [H0]; · iexact H0
  isplitl [H1]; · iexact H1
  isplitl [H2]; · iexact H2
  isplitl [H3]; · iexact H3
  isplitl [H4]
  · iapply (left4_kept m c t (by omega) d4); iexact H4
  iapply (left5_written m c t (by omega) _ (codes_self m hI (by omega))); iexact H5

theorem sound_body (c : Dev nD) (t : Fin cfg0.N) :
    bodyPre m c t ⊢ wp frame (wpE (defs₀ (F := F)) Variants.none c none) Set.univ (bodyAt0 t) (fun _ => bodyPost m c t) := by
  have hN := lt_N t
  by_cases h0 : t.val / 27 = 0
  · by_cases hj : t.val % 27 < 26
    · exact sound_A m c t h0 hj
    · exact sound_B m c t h0 (by omega)
  · by_cases h2 : t.val / 27 < 32
    · by_cases hj : t.val % 27 < 26
      · exact sound_C m c t (by omega) h2 hj
      · exact sound_D m c t (by omega) h2 (by omega)
    · exact sound_E m c t (by omega)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The scratch at any contents is what holds before the first point. -/
theorem scr_in (c : Dev nD) : Pipeline.ΦA spec0 c ⊢ (dats m 0 c).Φ 0 := by
  show _ ⊢ scr m c 0
  unfold Pipeline.ΦA scr
  rw [scopedRest0_eq]
  simp only [owns_whole]
  iintro ⟨⟨⟨%x, H0⟩, ⟨%a, H1⟩, ⟨%v, H2⟩⟩, Hg⟩
  isplitr [Hg]; swap; · iexact Hg
  iexists x
  iexists a
  iexists v
  isplitr
  · ipureintro
    exact inv_zero m c x a v
  isplitl [H0]; · iexact H0
  isplitl [H1]; · iexact H1
  iexact H2

/-- After the last point the scratch is at some contents. -/
theorem scr_out (c : Dev nD) : (dats m 0 c).Φ (Fin.last cfg0.N) ⊢ Pipeline.ΦA spec0 c := by
  show scr m c cfg0.N ⊢ _
  unfold Pipeline.ΦA scr
  rw [scopedRest0_eq]
  simp only [owns_whole]
  iintro ⟨⟨%x, %a, %v, -, H0, H1, H2⟩, Hg⟩
  isplitr [Hg]; swap; · iexact Hg
  isplitl [H0]; · iexists x; iexact H0
  isplitl [H1]; · iexists a; iexact H1
  iexists v
  iexact H2

set_option backward.isDefEq.respectTransparency.types false in
/-- The run: the program terminates, every window's array ends as its blocks written back one after another, every other array
    unchanged, and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := scr_in m) (hout := scr_out m)

/-- The arguments end as they were. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c)⟩

/-- The frame claim: the program terminates with its arguments unchanged and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨args_kept m r h.1, h.2⟩) (run_main m ρ)

end Cert.KernelIdeal.Hand

end
-- ==== Proof.Val.Exponent.lean ====
/-
  The exponent of a row's scale, read over the extended reals. The kernel counts the powers of two not above `t` among the
  256 patterns `field << 23`; the reference takes the floor of the base-two logarithm. Both give one whole number `e`, between
  -126 and 126, and the words the kernel builds from `e` denote `2 ^ e` and `2 ^ (-e)`.
-/
module

public import Idealize.ShloMosaic.PureOps.Ideal
public import Idealize.ShloMosaic.PureOps.Ideal.Laws
public import Idealize.ShloMosaic.PureOps.Reduce

@[expose] public section

noncomputable section

namespace Cert.Exponent

open Idealize.ShloMosaic

/-- The pattern whose exponent field is `k`, and no other bit. -/
def fieldWord (k : ℕ) : BitVec 32 := BitVec.ofNat 32 (k * 2 ^ 23)

/-- What the pattern of field `k` denotes. -/
def pw (k : ℕ) : EReal := Ideal.ieee 8 23 (fieldWord k)

theorem field_neg : ∀ k : Fin 256, (fieldWord k.val).extractLsb' 31 1 = 0#1 := by decide +kernel
theorem field_exp : ∀ k : Fin 256, ((fieldWord k.val).extractLsb' 23 8).toNat = k.val := by decide +kernel
theorem field_frac : ∀ k : Fin 256, ((fieldWord k.val).extractLsb' 0 23).toNat = 0 := by decide +kernel

theorem pw_normal (k : ℕ) (h1 : 1 ≤ k) (h2 : k ≤ 254) : pw k = (((2 : ℝ) ^ ((k : ℤ) - 127) : ℝ) : EReal) := by
  have hn := field_neg ⟨k, by omega⟩
  have he := field_exp ⟨k, by omega⟩
  have hf := field_frac ⟨k, by omega⟩
  simp only at hn he hf
  unfold pw Ideal.ieee
  simp only [show (8 + 23 : ℕ) = 31 from rfl, hn, he, hf]
  rw [if_neg (by omega), if_neg (by omega)]
  congr 1
  rw [if_neg (by decide), one_mul, Nat.add_zero]
  rw [show ((2 ^ 23 : ℕ) : ℝ) = (2 : ℝ) ^ (23 : ℤ) by norm_num, ← zpow_add₀ (by norm_num : (2 : ℝ) ≠ 0)]
  congr 1
  norm_num

theorem pw_zero : pw 0 = 0 := by
  have hn := field_neg ⟨0, by omega⟩
  have he := field_exp ⟨0, by omega⟩
  have hf := field_frac ⟨0, by omega⟩
  simp only at hn he hf
  unfold pw Ideal.ieee
  simp only [show (8 + 23 : ℕ) = 31 from rfl, hn, he, hf]
  simp

theorem pw_top : pw 255 = ⊤ := by
  have hn := field_neg ⟨255, by omega⟩
  have he := field_exp ⟨255, by omega⟩
  have hf := field_frac ⟨255, by omega⟩
  simp only at hn he hf
  unfold pw Ideal.ieee
  simp only [show (8 + 23 : ℕ) = 31 from rfl, hn, he, hf]
  simp

/-- How many of the 256 patterns denote something not above `t`. -/
def count (t : EReal) : ℕ := (Finset.univ.filter fun k : Fin 256 => pw k.val ≤ t).card

theorem count_le (t : EReal) : count t ≤ 256 := (Finset.card_filter_le _ _).trans (by simp)

/-- `2 ^ -126 ≤ t < 2 ^ 126`. -/
def Normal (t : EReal) : Prop := (((2 : ℝ) ^ (-126 : ℤ) : ℝ) : EReal) ≤ t ∧ t < (((2 : ℝ) ^ (126 : ℤ) : ℝ) : EReal)

/-- Of a normal `t`: the count and the logarithm give the same whole number. -/
theorem count_normal (t : EReal) (h : Normal t) :
    ∃ e : ℤ, -126 ≤ e ∧ e ≤ 125 ∧ (count t : ℤ) = e + 128
      ∧ Ideal.liftRound Int.floor (Ideal.div (Ideal.log t) (Ideal.log (((2 : ℝ) : ℝ) : EReal))) = ((e : ℝ) : EReal) := by
  obtain ⟨hlo, hhi⟩ := h
  induction t using EReal.rec with
  | bot => exact absurd hlo (by simp)
  | top => exact absurd hhi (by simp)
  | coe r =>
    rw [EReal.coe_le_coe_iff] at hlo
    rw [EReal.coe_lt_coe_iff] at hhi
    have hr : 0 < r := lt_of_lt_of_le (by positivity) hlo
    have h2 : 0 < Real.log 2 := Real.log_pos (by norm_num)
    have key : ∀ z : ℤ, (2 : ℝ) ^ z ≤ r ↔ z ≤ ⌊Real.log r / Real.log 2⌋ := by
      intro z
      rw [Int.le_floor, le_div_iff₀ h2, ← Real.log_zpow, Real.log_le_log_iff (by positivity) hr]
    have elo : -126 ≤ ⌊Real.log r / Real.log 2⌋ := (key _).1 hlo
    have ehi : ⌊Real.log r / Real.log 2⌋ ≤ 125 := by
      have : ¬ (126 : ℤ) ≤ ⌊Real.log r / Real.log 2⌋ := fun hh => absurd ((key 126).2 hh) (not_le.2 hhi)
      omega
    refine ⟨⌊Real.log r / Real.log 2⌋, elo, ehi, ?_, ?_⟩
    · generalize ⌊Real.log r / Real.log 2⌋ = e at key elo ehi
      obtain ⟨N, rfl⟩ : ∃ N : ℕ, e = (N : ℤ) - 127 := ⟨(e + 127).toNat, by omega⟩
      have hc : count ((r : ℝ) : EReal) = (Finset.univ.filter fun k : Fin 256 => k.val ≤ N).card := by
        unfold count
        congr 1
        refine Finset.filter_congr fun k _ => ?_
        by_cases h0 : k.val = 0
        · rw [h0, pw_zero]
          exact iff_of_true (by exact_mod_cast hr.le) (Nat.zero_le _)
        · by_cases h255 : k.val = 255
          · rw [h255, pw_top]
            exact iff_of_false (by simp) (by omega)
          · rw [pw_normal k.val (by omega) (by have := k.isLt; omega), EReal.coe_le_coe_iff, key]
            omega
      have hd : ∀ N : Fin 253, (Finset.univ.filter fun k : Fin 256 => k.val ≤ N.val).card = N.val + 1 := by decide +kernel
      rw [hc, hd ⟨N, by omega⟩]
      push_cast
      ring
    · rw [Ideal.log_coe, Ideal.log_coe, if_neg (not_le.2 hr), if_neg (by norm_num)]
      unfold Ideal.div
      rw [if_neg (by rw [← EReal.coe_zero, EReal.coe_eq_coe_iff]; exact h2.ne')]
      rw [← EReal.coe_inv, ← EReal.coe_mul, Ideal.liftRound_coe, div_eq_mul_inv]

/-- Below the normal range at most one pattern counts. -/
theorem count_low (t : EReal) (h : t < (((2 : ℝ) ^ (-126 : ℤ) : ℝ) : EReal)) : count t ≤ 1 := by
  unfold count
  refine Finset.card_le_one_iff.2 fun {a b} ha hb => ?_
  have hz : ∀ k : Fin 256, pw k.val ≤ t → k.val = 0 := by
    intro k hk
    by_contra h0
    refine absurd (lt_of_le_of_lt hk h) (not_lt.2 ?_)
    by_cases h255 : k.val = 255
    · rw [h255, pw_top]; exact le_top
    · rw [pw_normal k.val (by omega) (by have := k.isLt; omega), EReal.coe_le_coe_iff]
      exact zpow_le_zpow_right₀ (by norm_num) (by omega)
  exact Fin.ext ((hz a (Finset.mem_filter.1 ha).2).trans (hz b (Finset.mem_filter.1 hb).2).symm)

/-- Above it all but two do. -/
theorem count_high (t : EReal) (h : (((2 : ℝ) ^ (126 : ℤ) : ℝ) : EReal) ≤ t) : 254 ≤ count t := by
  have hd : (Finset.univ.filter fun k : Fin 256 => k.val ≤ 253).card = 254 := by decide +kernel
  rw [← hd]
  unfold count
  refine Finset.card_le_card fun k hk => ?_
  have hk := (Finset.mem_filter.1 hk).2
  refine Finset.mem_filter.2 ⟨Finset.mem_univ _, le_trans ?_ h⟩
  by_cases h0 : k.val = 0
  · rw [h0, pw_zero]
    exact_mod_cast (by positivity : (0 : ℝ) ≤ (2 : ℝ) ^ (126 : ℤ))
  · rw [pw_normal k.val (by omega) (by omega), EReal.coe_le_coe_iff]
    exact zpow_le_zpow_right₀ (by norm_num) (by omega)

/-- The kernel's exponent word of a count, before the test for an all-zero row. -/
def expWord (c : ℕ) : BitVec 32 :=
  Scalar.select (IntOp.andi (IntOp.cmpi .sgt (IntOp.subi (BitVec.ofNat 32 c) 1#32) 0#32) (IntOp.cmpi .slt (IntOp.subi (BitVec.ofNat 32 c) 1#32) 253#32))
    (IntOp.subi (IntOp.subi (BitVec.ofNat 32 c) 1#32) 126#32) 0#32

theorem expWord_low : ∀ c : Fin 2, expWord c.val = 0#32 := by decide +kernel
theorem expWord_high : ∀ c : Fin 257, 254 ≤ c.val → expWord c.val = 0#32 := by decide +kernel
theorem expWord_mid : ∀ c : Fin 257, 2 ≤ c.val → c.val ≤ 253 → expWord c.val = BitVec.ofInt 32 ((c.val : ℤ) - 127) := by decide +kernel

/-- The reference's exponent before the test for an all-zero row. -/
def expReal (t : EReal) : EReal :=
  Scalar.select (IntOp.andi (Ideal.cmp .oge t (((2 : ℝ) ^ (-126 : ℤ) : ℝ) : EReal)) (Ideal.cmp .olt t (((2 : ℝ) ^ (126 : ℤ) : ℝ) : EReal)))
    (Ideal.liftRound Int.floor (Ideal.div (Ideal.log t) (Ideal.log (((2 : ℝ) : ℝ) : EReal))) + 1) 0

/-- The two exponents are one whole number between -126 and 126. -/
theorem exponent (t : EReal) : ∃ e : ℤ, -126 ≤ e ∧ e ≤ 126 ∧ expWord (count t) = BitVec.ofInt 32 e ∧ expReal t = ((e : ℝ) : EReal) := by
  by_cases hlo : (((2 : ℝ) ^ (-126 : ℤ) : ℝ) : EReal) ≤ t
  · by_cases hhi : t < (((2 : ℝ) ^ (126 : ℤ) : ℝ) : EReal)
    · obtain ⟨e, h1, h2, hc, he⟩ := count_normal t ⟨hlo, hhi⟩
      refine ⟨e + 1, by omega, by omega, ?_, ?_⟩
      · rw [expWord_mid ⟨count t, by omega⟩ (by show 2 ≤ count t; omega) (by show count t ≤ 253; omega)]
        congr 1
        show (count t : ℤ) - 127 = e + 1
        omega
      · unfold expReal
        rw [show IntOp.andi (Ideal.cmp .oge t (((2 : ℝ) ^ (-126 : ℤ) : ℝ) : EReal)) (Ideal.cmp .olt t (((2 : ℝ) ^ (126 : ℤ) : ℝ) : EReal)) = 1#1 by
          unfold Ideal.cmp
          simp only [hlo, hhi, ge_iff_le, decide_true]
          rfl]
        rw [he]
        show ((e : ℝ) : EReal) + 1 = _
        push_cast
        rfl
    · have hc := count_high t (not_lt.1 hhi)
      refine ⟨0, by omega, by omega, ?_, ?_⟩
      · exact (expWord_high ⟨count t, by have := count_le t; omega⟩ hc).trans rfl
      · unfold expReal
        rw [show IntOp.andi (Ideal.cmp .oge t (((2 : ℝ) ^ (-126 : ℤ) : ℝ) : EReal)) (Ideal.cmp .olt t (((2 : ℝ) ^ (126 : ℤ) : ℝ) : EReal)) = 0#1 by
          unfold Ideal.cmp
          simp only [hlo, hhi, ge_iff_le, decide_true, decide_false]
          rfl]
        show (0 : EReal) = _
        simp
  · have hc := count_low t (not_le.1 hlo)
    refine ⟨0, by omega, by omega, ?_, ?_⟩
    · exact (expWord_low ⟨count t, by omega⟩).trans rfl
    · unfold expReal
      rw [show IntOp.andi (Ideal.cmp .oge t (((2 : ℝ) ^ (-126 : ℤ) : ℝ) : EReal)) (Ideal.cmp .olt t (((2 : ℝ) ^ (126 : ℤ) : ℝ) : EReal)) = 0#1 by
        unfold Ideal.cmp
        simp only [hlo, ge_iff_le, decide_false]
        generalize decide (t < (((2 : ℝ) ^ (126 : ℤ) : ℝ) : EReal)) = b
        cases b <;> rfl]
      show (0 : EReal) = _
      simp

/-- The kernel's word for `2 ^ e`. -/
def scaleWord (e : BitVec 32) : BitVec 32 := IntOp.shli .vector (IntOp.addi e 127#32) 23#32

/-- The kernel's word for `2 ^ (-e)`. -/
def invWord (e : BitVec 32) : BitVec 32 := IntOp.shli .vector (IntOp.addi (IntOp.subi 0#32 e) 127#32) 23#32

theorem scaleWord_eq : ∀ k : Fin 253, scaleWord (BitVec.ofInt 32 ((k.val : ℤ) - 126)) = fieldWord (k.val + 1) := by decide +kernel
theorem invWord_eq : ∀ k : Fin 253, invWord (BitVec.ofInt 32 ((k.val : ℤ) - 126)) = fieldWord (253 - k.val) := by decide +kernel

/-- The scale word denotes `2 ^ e`. -/
theorem scaleWord_value (e : ℤ) (h1 : -126 ≤ e) (h2 : e ≤ 126) :
    Ideal.ieee 8 23 (scaleWord (BitVec.ofInt 32 e)) = Ideal.exp2 ((e : ℝ) : EReal) := by
  obtain ⟨k, rfl⟩ : ∃ k : ℕ, e = (k : ℤ) - 126 := ⟨(e + 126).toNat, by omega⟩
  rw [scaleWord_eq ⟨k, by omega⟩]
  show pw (k + 1) = _
  rw [pw_normal _ (by omega) (by omega), Ideal.exp2_coe]
  congr 1
  show _ = (2 : ℝ) ^ ((((k : ℤ) - 126 : ℤ)) : ℝ)
  rw [Real.rpow_intCast]
  congr 1
  push_cast
  ring

/-- The reciprocal's word denotes `2 ^ (0 - e)`. -/
theorem invWord_value (e : ℤ) (h1 : -126 ≤ e) (h2 : e ≤ 126) :
    Ideal.ieee 8 23 (invWord (BitVec.ofInt 32 e)) = Ideal.exp2 (0 - ((e : ℝ) : EReal)) := by
  obtain ⟨k, rfl⟩ : ∃ k : ℕ, e = (k : ℤ) - 126 := ⟨(e + 126).toNat, by omega⟩
  rw [invWord_eq ⟨k, by omega⟩]
  show pw (253 - k) = _
  rw [pw_normal _ (by omega) (by omega), zero_sub, ← EReal.coe_neg, Ideal.exp2_coe]
  congr 1
  show _ = (2 : ℝ) ^ (-((((k : ℤ) - 126 : ℤ)) : ℝ))
  rw [← Int.cast_neg, Real.rpow_intCast]
  congr 1
  omega

/-- The kernel's exponent word of a row whose largest absolute value is `a` and whose `a / 448` is `t`. -/
def kexp (a t : EReal) : BitVec 32 := Scalar.select (Ideal.cmp .oeq a 0) 0#32 (expWord (count t))

/-- The reference's exponent of the row. -/
def rexp (a t : EReal) : EReal := Scalar.select (Ideal.cmp .oeq a 0) 0 (expReal t)

theorem exponent' (a t : EReal) : ∃ e : ℤ, -126 ≤ e ∧ e ≤ 126 ∧ kexp a t = BitVec.ofInt 32 e ∧ rexp a t = ((e : ℝ) : EReal) := by
  unfold kexp rexp Scalar.select
  by_cases h : Ideal.cmp .oeq a 0 = 1
  · rw [if_pos h, if_pos h]
    exact ⟨0, by omega, by omega, rfl, by simp⟩
  · rw [if_neg h, if_neg h]
    exact exponent t

/-- The scale: both programs' row scale is one value. -/
theorem scale_agrees (a t : EReal) : Ideal.ieee 8 23 (scaleWord (kexp a t)) = Ideal.exp2 (rexp a t) := by
  obtain ⟨e, h1, h2, hk, hr⟩ := exponent' a t
  rw [hk, hr, scaleWord_value e h1 h2]

/-- The reciprocal scale likewise. -/
theorem inv_agrees (a t : EReal) : Ideal.ieee 8 23 (invWord (kexp a t)) = Ideal.exp2 (0 - rexp a t) := by
  obtain ⟨e, h1, h2, hk, hr⟩ := exponent' a t
  rw [hk, hr, invWord_value e h1 h2]

end Cert.Exponent

end
-- ==== Proof.Val.Row.lean ====
/-
  One row's scale, in the terms the two programs compute it: the constants' values, the count of exponent patterns, and the
  largest value of a row as a fold of `max`.
-/
module

public import proofs.«01_k».proof.Proof.Val.Exponent
public import Idealize.ShloMosaic.Lib.Pointwise
public import Idealize.ShloMosaic.Lib.ValueIdx
public import Idealize.ShloMosaic.Lib.ValueLayoutCasts
public import Idealize.ShloMosaic.Lib.IndicatorCount

@[expose] public section

noncomputable section

namespace Cert.Exponent

open Idealize.ShloMosaic

/-- The pattern of 1/448 as a 32-bit float: what both programs multiply the row's largest absolute value by. -/
def recip448 : EReal := Ideal.ofBits .f32 0x3B124925#32

/-- What the largest value of a row starts from. -/
theorem bot_value : Ideal.ofBits .f32 0xFF800000#32 = ⊥ := by
  show Ideal.ieee 8 23 0xFF800000#32 = ⊥
  unfold Ideal.ieee
  simp

theorem low_value : Ideal.ofBits .f32 0x00800000#32 = (((2 : ℝ) ^ (-126 : ℤ) : ℝ) : EReal) := pw_normal 1 (by omega) (by omega)
theorem high_value : Ideal.ofBits .f32 0x7E800000#32 = (((2 : ℝ) ^ (126 : ℤ) : ℝ) : EReal) := pw_normal 253 (by omega) (by omega)
theorem two_value : Ideal.ofBits .f32 0x40000000#32 = (((2 : ℝ) : ℝ) : EReal) := by
  refine (pw_normal 128 (by omega) (by omega)).trans ?_
  congr 1
  norm_num

theorem field_shli : ∀ k : Fin 256, IntOp.shli .vector (BitVec.ofNat 32 k.val) 23#32 = fieldWord k.val := by decide +kernel

/-- The kernel's sum of the comparisons is the count. -/
theorem count_fold (t : EReal) :
    Finset.fold IntOp.addi (0#32) (fun k : Fin 256 =>
      if Ideal.ofBits .f32 (IntOp.shli .vector (BitVec.ofNat 32 k.val) 23#32) ≤ t then 1#32 else 0#32) Finset.univ
      = BitVec.ofNat 32 (count t) := by
  have h := IndicatorCount.fold_addi_setWidth_eq_card (w := 32) (fun k : Fin 256 => BitVec.ofBool (decide (pw k.val ≤ t))) Finset.univ
  unfold count
  refine Eq.trans ?_ (h.trans ?_)
  · congr 1
    funext k
    rw [field_shli k]
    show (if pw k.val ≤ t then _ else _) = _
    by_cases hk : pw k.val ≤ t
    · rw [if_pos hk, decide_eq_true hk]; rfl
    · rw [if_neg hk, decide_eq_false hk]; rfl
  · congr 2
    refine Finset.filter_congr fun k _ => ?_
    by_cases hk : pw k.val ≤ t
    · rw [decide_eq_true hk]; exact iff_of_true rfl hk
    · rw [decide_eq_false hk]; exact iff_of_false (by decide) hk

/-- The largest of finitely many values. -/
def rowMax {n : ℕ} (f : Fin n → EReal) : EReal := Finset.univ.fold max (Ideal.ofBits .f32 0xFF800000#32) f

theorem rowMax_le {n : ℕ} (f : Fin n → EReal) (b : EReal) : rowMax f ≤ b ↔ ∀ k, f k ≤ b := by
  unfold rowMax
  rw [Finset.fold_max_le, bot_value]
  exact ⟨fun h k => h.2 k (Finset.mem_univ _), fun h => ⟨bot_le, fun k _ => h k⟩⟩

/-- Two folds of `max` are equal when they have the same upper bounds. -/
theorem rowMax_eq {n k : ℕ} (f : Fin n → EReal) (g : Fin k → EReal) (h : ∀ b, (∀ i, f i ≤ b) ↔ ∀ j, g j ≤ b) : rowMax f = rowMax g :=
  le_antisymm ((rowMax_le f _).2 ((h _).2 ((rowMax_le g _).1 le_rfl))) ((rowMax_le g _).2 ((h _).1 ((rowMax_le f _).1 le_rfl)))

/-- The row reduction of a matrix, read at a row: `rowMax` of the row. -/
theorem reduce_row (n k : ℕ) (v : FVec Ideal ⟨2, ![n, k]⟩ .f32) (h : Shape.Reduces ⟨2, ![n, k]⟩ [1] ⟨1, ![n]⟩)
    (hφ : FKind.Formats .f32) (hacc : 0xFF800000#32 = FKind.maximumf.neutral .f32 hφ) (j : Shape.Idx ⟨1, ![n]⟩) :
    multiReduction .maximumf [1] ⟨1, ![n]⟩ v 0xFF800000#32 h hφ hacc j = rowMax fun i : Fin k => v (ix2 (j 0) i) := by
  unfold rowMax
  pointwise

/-- A column of row values, read at a row. -/
theorem column_at (n : ℕ) (v : FVec Ideal ⟨1, ![n]⟩ .f32) (h : Shape.ShapeCasts ⟨1, ![n]⟩ ⟨2, ![n, 1]⟩) (j : Shape.Idx ⟨2, ![n, 1]⟩) :
    shapeCast ⟨2, ![n, 1]⟩ v h j = v (ix1 (j 0)) := by
  obtain ⟨a, b, rfl⟩ : ∃ (a : Fin n) (b : Fin 1), j = ValueIdx.ix2 a b := ⟨j 0, j 1, ValueIdx.eq_ix2 j⟩
  refine (ValueIdx.shapeCast_a_a1_apply v h a b).trans (congrArg v ?_)
  funext k
  obtain rfl : k = 0 := Subsingleton.elim _ _
  rfl

/-! ## The two results, as functions of the four argument matrices -/

variable (X : FVec Ideal ⟨2, ![12288, 7424]⟩ .fp8e4m3) (W : FVec Ideal ⟨2, ![27648, 7424]⟩ .fp8e4m3)
  (XS : FVec Ideal ⟨2, ![12288, 1]⟩ .f32) (WS : FVec Ideal ⟨2, ![1, 27648]⟩ .f32)

/-- Entry `(r, n)` of the scaled product. -/
def prod (r : Fin 12288) (n : Fin 27648) : EReal :=
  (∑ k : Fin 7424, X (ix2 r k) * W (ix2 n k)) * XS (ix2 r 0) * WS (ix2 0 n)

/-- The largest absolute value of row `r`. -/
def rowTop (r : Fin 12288) : EReal := rowMax fun n : Fin 27648 => FloatOps.absf (F := Ideal) (φ := .f32) (prod X W XS WS r n)

/-- The exponent of row `r`. -/
def rowExp (r : Fin 12288) : EReal := rexp (rowTop X W XS WS r) (rowTop X W XS WS r * recip448)

/-- The scales: `2` to the row's exponent. -/
def scales : FVec Ideal ⟨2, ![12288, 1]⟩ .f32 := fun j => Ideal.exp2 (rowExp X W XS WS (j 0))

/-- The codes: the entry times `2` to minus the row's exponent, kept between -448 and 448. -/
def codes : FVec Ideal ⟨2, ![12288, 27648]⟩ .fp8e4m3 := fun j =>
  min (Ideal.ofBits .f32 0x43E00000#32) (max (Ideal.ofBits .f32 0xC3E00000#32)
    (prod X W XS WS (j 0) (j 1) * Ideal.exp2 (0 - rowExp X W XS WS (j 0))))

end Cert.Exponent

end
-- ==== Proof.Val.Tile.lean ====
/-
  What one grid point of the kernel computes, read at an index over the extended reals.
-/
module

public import proofs.«01_k».proof.Proof.KI.Frame
public import proofs.«01_k».proof.Proof.Val.Row
public import Idealize.ShloMosaic.Lib.Pipeline.ValueKit

@[expose] public section

set_option maxRecDepth 16384

noncomputable section

namespace Cert.KernelIdeal.Value

open Cert.KernelIdeal Cert.KernelIdeal.Gen Cert.KernelIdeal.Hand Cert.Exponent
open Idealize.ShloMosaic Idealize.ShloMosaic.TcCoe

/-- The largest lane maximum of row `r`. -/
def laneTop (A : FVec Ideal S384x128 .f32) (r : Fin 384) : EReal := rowMax fun k : Fin 128 => A (ix2 r k)

/-- The exponent of a row. -/
theorem exponent_at (A : FVec Ideal S384x128 .f32) (j : S384x1.Idx) :
    k0_pay13 (F := Ideal) A j = kexp (laneTop A (j 0)) (laneTop A (j 0) * recip448) := by
  pointwise [k0_pay13]
  unfold kexp expWord laneTop rowMax recip448
  generalize Finset.fold max (Ideal.ofBits FTy.f32 4286578688#32) (fun x : Fin 128 => A (ix2 (j 0) x)) Finset.univ = a
  rw [count_fold]
  unfold Ideal.cmp
  by_cases h : a = 0
  · simp [h, Scalar.select]
  · simp [h, Scalar.select]

/-- The scale of a row. -/
theorem scale_at (A : FVec Ideal S384x128 .f32) (j : S384x1.Idx) :
    k0_pay14 (F := Ideal) A j = Ideal.exp2 (rexp (laneTop A (j 0)) (laneTop A (j 0) * recip448)) := by
  rw [← scale_agrees, ← exponent_at]
  rfl

/-- The reciprocal scale of a row. -/
theorem inv_at (A : FVec Ideal S384x128 .f32) (j : S384x1.Idx) :
    invOf (F := Ideal) A j = Ideal.exp2 (0 - rexp (laneTop A (j 0)) (laneTop A (j 0) * recip448)) := by
  rw [← inv_agrees, ← exponent_at]
  unfold invOf
  pointwise [k0_pay4, k0_pay15]
  rfl

/-- The scaled product of a block. -/
theorem prod_at (x : Vec Ideal S384x7424 .fp8e4m3) (w : Vec Ideal S1024x7424 .fp8e4m3) (xs : Vec Ideal S384x1 .f32) (ws : Vec Ideal S1x1024 .f32)
    (j : S384x1024.Idx) :
    k0_pay5 (F := Ideal) x w xs ws j = (∑ k : Fin 7424, x (ix2 (j 0) k) * w (ix2 (j 1) k)) * xs (ix2 (j 0) 0) * ws (ix2 0 (j 1)) := by
  pointwise [k0_pay5]

/-- The codes of a block. -/
theorem codes_at (y : FVec Ideal S384x1024 .f32) (v : FVec Ideal S384x1 .f32) (j : S384x1024.Idx) :
    k0_pay3 (F := Ideal) y v j = min (Ideal.ofBits .f32 0x43E00000#32) (max (Ideal.ofBits .f32 0xC3E00000#32) (y j * v (ix2 (j 0) 0))) := by
  pointwise [k0_pay3]

/-- The upper bounds of a lane maximum are those of the eight absolute values it is taken over. -/
theorem laneMax_le (y : FVec Ideal S384x1024 .f32) (r : Fin 384) (b : EReal) :
    (∀ k : Fin 128, laneMax (F := Ideal) y (ix2 r k) ≤ b) ↔ ∀ k : Fin 1024, (FloatOps.absf (y (ix2 r k) : Ideal .f32) : EReal) ≤ b := by
  have h : ∀ k : Fin 128, laneMax (F := Ideal) y (ix2 r k) ≤ b ↔ ∀ q : Fin 8, (FloatOps.absf (y (ix2 r ⟨128 * q.val + k.val, by omega⟩) : Ideal .f32) : EReal) ≤ b := by
    intro k
    pointwise [laneMax]
    rw [max_le_iff, max_le_iff, max_le_iff, max_le_iff, max_le_iff, max_le_iff, max_le_iff]
    constructor
    · rintro ⟨⟨⟨⟨⟨⟨⟨h0, h1⟩, h2⟩, h3⟩, h4⟩, h5⟩, h6⟩, h7⟩ q
      fin_cases q
      · convert h0 using 4
        all_goals simp
      · exact h1
      · exact h2
      · exact h3
      · exact h4
      · exact h5
      · exact h6
      · exact h7
    · intro h
      refine ⟨⟨⟨⟨⟨⟨⟨?_, h 1⟩, h 2⟩, h 3⟩, h 4⟩, h 5⟩, h 6⟩, h 7⟩
      convert h 0 using 4
      all_goals simp
  simp only [h]
  constructor
  · intro h k
    have := h ⟨k.val % 128, by omega⟩ ⟨k.val / 128, by omega⟩
    rwa [show (⟨128 * (k.val / 128) + k.val % 128, by omega⟩ : Fin 1024) = k from Fin.ext (by show 128 * (k.val / 128) + k.val % 128 = k.val; omega)] at this
  · exact fun h k q => h _

variable (m : (ℓ : Loc nD τ sig) → Buf (Elt Ideal) ℓ)

/-- The upper bounds of the lane maxima after column block `j` are those of the absolute values of the blocks so far. -/
theorem Av_le (c : Dev nD) (i : ℕ) (r : Fin 384) (b : EReal) (j : ℕ) :
    (∀ k : Fin 128, Av m c i j (ix2 r k) ≤ b) ↔ ∀ l ≤ j, ∀ k : Fin 1024, (FloatOps.absf (Yv m c i l (ix2 r k) : Ideal .f32) : EReal) ≤ b := by
  induction j with
  | zero =>
    refine (laneMax_le _ r b).trans ⟨fun h l hl => ?_, fun h => h 0 le_rfl⟩
    obtain rfl : l = 0 := by omega
    exact h
  | succ j ih =>
    have e : ∀ k : Fin 128, Av m c i (j + 1) (ix2 r k) ≤ b ↔ Av m c i j (ix2 r k) ≤ b ∧ laneMax (F := Ideal) (Yv m c i (j + 1)) (ix2 r k) ≤ b :=
      fun k => max_le_iff
    simp only [e]
    rw [forall_and, ih, laneMax_le]
    constructor
    · rintro ⟨h1, h2⟩ l hl
      rcases Nat.lt_or_eq_of_le hl with h | rfl
      · exact h1 l (by omega)
      · exact h2
    · exact fun h => ⟨fun l hl => h l (by omega), h _ le_rfl⟩

end Cert.KernelIdeal.Value

end
-- ==== Proof.Val.Final.lean ====
/-
  The kernel's two result arrays after the run are the functions `scales` and `codes` of its arguments.
-/
module

public import proofs.«01_k».proof.Proof.Val.Tile
public import Idealize.ShloMosaic.Lib.Pipeline.Covers

@[expose] public section

set_option maxRecDepth 16384

noncomputable section

namespace Cert.KernelIdeal.Value

open Cert.KernelIdeal Cert.KernelIdeal.Gen Cert.KernelIdeal.Hand Cert.Exponent
open Idealize.ShloMosaic Idealize.ShloMosaic.TcCoe Idealize.SL.Sem

theorem index_0 : ∀ t : Fin cfg0.N, win0_0.index t = ![min (t.val / 27) 31, 0] := (by decide +kernel : ∀ t : Fin grid0.N, _)
theorem index_1 : ∀ t : Fin cfg0.N, win0_1.index t = ![min (t.val / 27) 31, 0] := (by decide +kernel : ∀ t : Fin grid0.N, _)
theorem index_2 : ∀ t : Fin cfg0.N, t.val / 27 < 32 → win0_2.index t = ![t.val % 27, 0] := (by decide +kernel : ∀ t : Fin grid0.N, _)
theorem index_3 : ∀ t : Fin cfg0.N, t.val / 27 < 32 → win0_3.index t = ![0, t.val % 27] := (by decide +kernel : ∀ t : Fin grid0.N, _)
theorem index_4 : ∀ t : Fin cfg0.N, win0_4.index t = ![min (t.val / 27) 31, 0] := (by decide +kernel : ∀ t : Fin grid0.N, _)
theorem index_5 : ∀ t : Fin cfg0.N, 27 ≤ t.val → win0_5.index t = ![t.val / 27 - 1, t.val % 27] := (by decide +kernel : ∀ t : Fin grid0.N, _)

variable (m : (ℓ : Loc nD τ sig) → Buf (Elt Ideal) ℓ)

/-- Entry `(r, n)` of the scaled product of the arrays the region starts from. -/
abbrev P (c : Dev nD) (r : Fin 12288) (n : Fin 27648) : EReal := prod (V m c main_v0) (V m c main_arg2) (V m c main_v1) (V m c main_v2) r n

/-- Block `(i, l)` of the scaled product is that block of the whole product. -/
theorem Yv_at (c : Dev nD) (i l : ℕ) (hi : i < 32) (hl : l < 27) (r : Fin 384) (k : Fin 1024) :
    Yv m c i l (ix2 r k) = P m c ⟨384 * i + r.val, by omega⟩ ⟨1024 * l + k.val, by omega⟩ := by
  have hv : (pt i l).val = 27 * i + l := by show min (27 * i + l) 890 = _; omega
  have h0 := index_0 (pt i l)
  have h1 := index_1 (pt i l)
  have h2 := index_2 (pt i l) (by omega)
  have h3 := index_3 (pt i l) (by omega)
  rw [show min ((pt i l).val / 27) 31 = i by omega] at h0 h1
  rw [show (pt i l).val % 27 = l by omega] at h2 h3
  unfold Yv P prod
  rw [prod_at]
  generalize pt i l = t at h0 h1 h2 h3
  blk_point [iblk, h0, h1, h2, h3]

/-- The largest absolute value of a row, from the lane maxima of its 27 blocks. -/
theorem top_at (c : Dev nD) (i : ℕ) (hi : i < 32) (r : Fin 384) :
    laneTop (Av m c i 26) r = rowTop (V m c main_v0) (V m c main_arg2) (V m c main_v1) (V m c main_v2) ⟨384 * i + r.val, by omega⟩ := by
  refine rowMax_eq _ _ fun b => ?_
  rw [Av_le]
  constructor
  · intro h n
    have := h (n.val / 1024) (by omega) ⟨n.val % 1024, by omega⟩
    rw [Yv_at m c i (n.val / 1024) hi (by omega)] at this
    rwa [show (⟨1024 * (n.val / 1024) + n.val % 1024, by omega⟩ : Fin 27648) = n from Fin.ext (by show 1024 * (n.val / 1024) + n.val % 1024 = n.val; omega)] at this
  · intro h l hl k
    rw [Yv_at m c i l hi (by omega)]
    exact h _

/-- A block of scales, read at an index, is the whole array of scales read where the index sits. -/
theorem scaleAt_at (c : Dev nD) (t : Fin cfg0.N) (y : S384x1.Idx) (j : S12288x1.Idx) (h : (j 0).val = min (t.val / 27) 31 * 384 + (y 0).val) :
    scaleAt m c t y = scales (V m c main_v0) (V m c main_arg2) (V m c main_v1) (V m c main_v2) j := by
  unfold scaleAt
  refine (scale_at _ y).trans ?_
  have hy : (y 0).val < 384 := (y 0).isLt
  have e := top_at m c (min (t.val / 27) 31) (by omega) (y 0)
  rw [show (⟨384 * min (t.val / 27) 31 + (y 0).val, by omega⟩ : Fin 12288) = j 0 from Fin.ext (by rw [h]; exact congrArg (· + _) (Nat.mul_comm _ _))] at e
  unfold scales rowExp
  rw [← e]

/-- A block of codes likewise. -/
theorem codesAt_at (c : Dev nD) (t : Fin cfg0.N) (y : S384x1024.Idx) (j : S12288x27648.Idx)
    (h0 : (j 0).val = min (t.val / 27 - 1) 31 * 384 + (y 0).val) (h1 : (j 1).val = t.val % 27 * 1024 + (y 1).val) :
    codesAt m c t y = codes (V m c main_v0) (V m c main_arg2) (V m c main_v1) (V m c main_v2) j := by
  unfold codesAt
  refine (codes_at _ _ y).trans ?_
  have hy0 : (y 0).val < 384 := (y 0).isLt
  have hy1 : (y 1).val < 1024 := (y 1).isLt
  have e := top_at m c (min (t.val / 27 - 1) 31) (by omega) (y 0)
  have f := Yv_at m c (min (t.val / 27 - 1) 31) (t.val % 27) (by omega) (by omega) (y 0) (y 1)
  have q0 : (⟨384 * min (t.val / 27 - 1) 31 + (y 0).val, by omega⟩ : Fin 12288) = j 0 := Fin.ext (by rw [h0]; exact congrArg (· + _) (Nat.mul_comm _ _))
  have q1 : (⟨1024 * (t.val % 27) + (y 1).val, by omega⟩ : Fin 27648) = j 1 := Fin.ext (by rw [h1]; exact congrArg (· + _) (Nat.mul_comm _ _))
  rw [q0] at e
  rw [q0, q1] at f
  rw [show (y : S384x1024.Idx) = ix2 (y 0) (y 1) from ValueIdx.eq_ix2 y]
  unfold codes rowExp
  rw [← e]
  refine congrArg (min _) (congrArg (max _) ?_)
  exact congrArg₂ (· * ·) f (inv_at _ _)

/-- The scales after the run. -/
theorem final_4 (c : Dev nD) : (dats m 0 c).arrAt 4 (cfgs 0).N = scales (V m c main_v0) (V m c main_arg2) (V m c main_v1) (V m c main_v2) := by
  refine (dats m 0 c).arrAt_eq_of_covers 4 _ (by decide +kernel) fun t hf y => ?_
  blk_simp
  rw [after_4]
  refine scaleAt_at m c t y _ ?_
  blk_simp [index_4 t]

/-- The codes after the run. -/
theorem final_5 (c : Dev nD) : (dats m 0 c).arrAt 5 (cfgs 0).N = codes (V m c main_v0) (V m c main_arg2) (V m c main_v1) (V m c main_v2) := by
  refine (dats m 0 c).arrAt_eq_of_covers 5 _ (by decide +kernel) fun t hf y => ?_
  have ht : 27 ≤ t.val := of_decide_eq_true ((flush5_iff t).symm.trans hf)
  have hN := lt_N t
  blk_simp
  rw [after_5]
  refine codesAt_at m c t y _ ?_ ?_
  · blk_simp [index_5 t ht]
    rw [min_eq_left (by omega : t.val / 27 - 1 ≤ 31)]
  · blk_simp [index_5 t ht]

/-! ## The arrays the region starts from are the arguments, reshaped -/

theorem entry_0 (c : Dev nD) : V m c main_v0 = shapeCast S12288x7424 (m ((c : Thread nD τ).loc main_arg0)) shapeCasts_S2x6144x7424_S12288x7424 := by entry_read; rfl
theorem entry_1 (c : Dev nD) : V m c main_v1 = shapeCast S12288x1 (m ((c : Thread nD τ).loc main_arg1)) shapeCasts_S2x6144x1_S12288x1 := by entry_read; rfl
theorem entry_2 (c : Dev nD) : V m c main_v2 = shapeCast S1x27648 (m ((c : Thread nD τ).loc main_arg3)) shapeCasts_S27648_S1x27648 := by entry_read; rfl

variable (ρ : Dev nD → PrngReg)

/-- The run: the results are `scales` and `codes` of the arguments, reshaped, and the arguments are kept. -/
theorem run : θ_run defs (onTc (τ := τ) (main (F := Ideal))) (s₀ m ρ) (fun r => ∀ c : Dev nD,
    r.2.mem ((c.tc : Thread nD τ).loc main_v3_0)
        = scales (shapeCast S12288x7424 (m ((c : Thread nD τ).loc main_arg0)) shapeCasts_S2x6144x7424_S12288x7424) (m ((c : Thread nD τ).loc main_arg2))
          (shapeCast S12288x1 (m ((c : Thread nD τ).loc main_arg1)) shapeCasts_S2x6144x1_S12288x1) (shapeCast S1x27648 (m ((c : Thread nD τ).loc main_arg3)) shapeCasts_S27648_S1x27648)
      ∧ r.2.mem ((c.tc : Thread nD τ).loc main_v3_1)
        = codes (shapeCast S12288x7424 (m ((c : Thread nD τ).loc main_arg0)) shapeCasts_S2x6144x7424_S12288x7424) (m ((c : Thread nD τ).loc main_arg2))
          (shapeCast S12288x1 (m ((c : Thread nD τ).loc main_arg1)) shapeCasts_S2x6144x1_S12288x1) (shapeCast S1x27648 (m ((c : Thread nD τ).loc main_arg3)) shapeCasts_S27648_S1x27648)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨?_, ?_, args_kept m r h.1 c⟩) (run_main m ρ)
  · rw [← entry_0, ← entry_1, ← entry_2, ← V_main_arg2 m c]
    exact ((h.1 c).1 4).trans (final_4 m c)
  · rw [← entry_0, ← entry_1, ← entry_2, ← V_main_arg2 m c]
    exact ((h.1 c).1 5).trans (final_5 m c)

end Cert.KernelIdeal.Value

end
-- ==== Proof.Val.Reference.lean ====
/-
  The reference's two result arrays after its run are the functions `scales` and `codes` of its arguments.
-/
module

public import proofs.«01_k».proof.Proof.Gen.ReferenceIdeal.Frame
public import proofs.«01_k».proof.Proof.Val.Row
public import Idealize.ShloMosaic.Lib.Pipeline.ValueKit
public import Idealize.ShloMosaic.Lib.ValueLayoutCasts

@[expose] public section

set_option maxRecDepth 16384

noncomputable section

namespace Cert.ReferenceIdeal.Value

open Cert.ReferenceIdeal Cert.ReferenceIdeal.Gen Cert.Exponent
open Idealize.ShloMosaic Idealize.ShloMosaic.TcCoe Idealize.SL.Sem

variable (X : FVec Ideal S12288x7424 .fp8e4m3) (W : FVec Ideal S27648x7424 .fp8e4m3) (XS : FVec Ideal S12288x1 .f32) (WS : FVec Ideal S1x27648 .f32)

/-- The scaled product. -/
theorem prod_at (j : S12288x27648.Idx) : k0_pay2 (F := Ideal) X W XS WS j = prod X W XS WS (j 0) (j 1) := by
  unfold prod
  pointwise [k0_pay2]

/-- The exponent as a function of the rows' largest absolute values: the reference's lines after the reduction. -/
def expOf (v14 : FVec Ideal S12288x1 .f32) : FVec Ideal S12288x1 .f32 :=
  have v15 : FVec Ideal S12288x1 .f32 := broadcast S12288x1 (Scalar.ofBits .f32 0x3B124925#32)
  have v16 : FVec Ideal S12288x1 .f32 := mulf v14 v15
  have v18 : IVec S12288x1 1 := cmpf .oge v16 (broadcast S12288x1 (Scalar.ofBits .f32 0x00800000#32))
  have v20 : IVec S12288x1 1 := cmpf .olt v16 (broadcast S12288x1 (Scalar.ofBits .f32 0x7E800000#32))
  have v25 : FVec Ideal S12288x1 .f32 := divf (log v16) (log (broadcast S12288x1 (Scalar.ofBits .f32 0x40000000#32)))
  have v28 : FVec Ideal S12288x1 .f32 := addf (floor v25) (broadcast S12288x1 (Scalar.ofBits .f32 0x3F800000#32))
  have v30 : FVec Ideal S12288x1 .f32 := select (andi v18 v20) v28 (broadcast S12288x1 (Scalar.ofBits .f32 0x00000000#32))
  select (cmpf .oeq v14 (broadcast S12288x1 (Scalar.ofBits .f32 0x00000000#32))) (broadcast S12288x1 (Scalar.ofBits .f32 0x00000000#32)) v30

/-- Its value at a row. -/
theorem expOf_at (a : FVec Ideal S12288x1 .f32) (j : S12288x1.Idx) : expOf a j = rexp (a j) (a j * recip448) := by
  show Scalar.select (Ideal.cmp .oeq (a j) (Ideal.ofBits .f32 0x00000000#32)) (Ideal.ofBits .f32 0x00000000#32)
    (Scalar.select (IntOp.andi (Ideal.cmp .oge (a j * Ideal.ofBits .f32 0x3B124925#32) (Ideal.ofBits .f32 0x00800000#32))
        (Ideal.cmp .olt (a j * Ideal.ofBits .f32 0x3B124925#32) (Ideal.ofBits .f32 0x7E800000#32)))
      (Ideal.liftRound Int.floor (Ideal.div (Ideal.log (a j * Ideal.ofBits .f32 0x3B124925#32)) (Ideal.log (Ideal.ofBits .f32 0x40000000#32))) + Ideal.ofBits .f32 0x3F800000#32)
      (Ideal.ofBits .f32 0x00000000#32)) = _
  rw [low_value, high_value, two_value, Ideal.ofBits_zero_f32, Ideal.ofBits_one_f32]
  rfl

/-- The rows' largest absolute values, as the reference takes them. -/
def topOf (v11 : FVec Ideal S12288x27648 .f32) : FVec Ideal S12288x1 .f32 :=
  shapeCast S12288x1 (multiReduction .maximumf [1] S12288 (absf v11) 0xFF800000#32 reduces_S12288x27648_S12288 (.inl rfl) rfl) shapeCasts_S12288_S12288x1

/-- Their value at a row. -/
theorem topOf_at (y : FVec Ideal S12288x27648 .f32) (j : S12288x1.Idx) :
    topOf y j = rowMax fun n : Fin 27648 => FloatOps.absf (F := Ideal) (φ := .f32) (y (ix2 (j 0) n)) := by
  unfold topOf
  exact (column_at 12288 _ _ j).trans (reduce_row 12288 27648 _ _ _ _ _)

theorem pay3_eq : k0_pay3 (F := Ideal) X W XS WS = expOf (topOf (k0_pay2 (F := Ideal) X W XS WS)) := rfl

/-- The exponent of a row. -/
theorem exponent_at (j : S12288x1.Idx) : k0_pay3 (F := Ideal) X W XS WS j = rowExp X W XS WS (j 0) := by
  have h : topOf (k0_pay2 (F := Ideal) X W XS WS) j = rowTop X W XS WS (j 0) :=
    (topOf_at _ j).trans (congrArg rowMax (funext fun n => congrArg (FloatOps.absf (F := Ideal) (φ := .f32)) (prod_at X W XS WS (ix2 (j 0) n))))
  refine (congrFun (pay3_eq X W XS WS) j).trans ((expOf_at _ j).trans ?_)
  unfold rowExp
  exact congrArg (fun a => rexp a (a * recip448)) h

theorem pay4_eq : k0_pay4 (F := Ideal) X W XS WS = exp2 (k0_pay3 (F := Ideal) X W XS WS) := rfl
theorem exp2_at (v : FVec Ideal S12288x1 .f32) (j : S12288x1.Idx) : exp2 v j = Ideal.exp2 (v j) := rfl

/-- The reference's scales. -/
theorem scales_eq : k0_pay4 (F := Ideal) X W XS WS = scales X W XS WS := by
  funext j
  refine (congrFun (pay4_eq X W XS WS) j).trans ((exp2_at _ j).trans ?_)
  unfold scales
  exact congrArg Ideal.exp2 (exponent_at X W XS WS j)

/-- A code, from the entry and the row's exponent. -/
theorem code_at (x : FVec Ideal S12288x27648 .f32) (y : FVec Ideal S12288x1 .f32) (j : S12288x27648.Idx) :
    k0_pay1 (F := Ideal) x y k0_pay5 j = min (Ideal.ofBits .f32 0x43E00000#32) (max (Ideal.ofBits .f32 0xC3E00000#32)
      (x j * Ideal.exp2 (0 - y (ix2 (j 0) 0)))) := by
  pointwise [k0_pay1, k0_pay5]
  rfl

/-- The reference's codes. -/
theorem codes_eq : k0_pay1 (F := Ideal) (k0_pay2 (F := Ideal) X W XS WS) (k0_pay3 (F := Ideal) X W XS WS) k0_pay5 = codes X W XS WS := by
  funext j
  refine (code_at _ _ j).trans ?_
  unfold codes
  exact congrArg (min _) (congrArg (max _) (congrArg₂ (· * ·) (prod_at X W XS WS j)
    (congrArg (fun e => Ideal.exp2 (0 - e)) (exponent_at X W XS WS (ix2 (j 0) 0)))))

variable (m : (ℓ : Loc nD τ sig) → Buf (Elt Ideal) ℓ)

theorem index_in : win0_0.index t0_0 = ![0, 0] ∧ win0_1.index t0_0 = ![0, 0] ∧ win0_2.index t0_0 = ![0, 0] ∧ win0_3.index t0_0 = ![0, 0] := by decide +kernel

theorem iblk_0 (c : Dev nD) : iblk m c 0 t0_0 = V m c main_v0 := by blk_ext! [iblk, index_in]
theorem iblk_1 (c : Dev nD) : iblk m c 1 t0_0 = V m c main_v1 := by blk_ext! [iblk, index_in]
theorem iblk_2 (c : Dev nD) : iblk m c 2 t0_0 = V m c main_arg2 := by blk_ext! [iblk, index_in]
theorem iblk_3 (c : Dev nD) : iblk m c 3 t0_0 = V m c main_v2 := by blk_ext! [iblk, index_in]

/-- The scales after the run. -/
theorem final_4 (c : Dev nD) : (dats m 0 c).arrAt 4 (cfgs 0).N = scales (V m c main_v0) (V m c main_arg2) (V m c main_v1) (V m c main_v2) := by
  refine (dats m 0 c).arrAt_eq_of_after_last 4 t0_0 (by decide +kernel) _ fun j => ?_
  blk_simp
  rw [after0_4]
  frame_out
  rw [iblk_0, iblk_1, iblk_2, iblk_3, scales_eq]

/-- The codes after the run. -/
theorem final_5 (c : Dev nD) : (dats m 0 c).arrAt 5 (cfgs 0).N = codes (V m c main_v0) (V m c main_arg2) (V m c main_v1) (V m c main_v2) := by
  refine (dats m 0 c).arrAt_eq_of_after_last 5 t0_0 (by decide +kernel) _ fun j => ?_
  blk_simp
  rw [after0_5]
  frame_out
  rw [iblk_0, iblk_1, iblk_2, iblk_3, codes_eq]

/-! ## The arrays the region starts from are the arguments, reshaped -/

theorem entry_0 (c : Dev nD) : V m c main_v0 = shapeCast S12288x7424 (m ((c : Thread nD τ).loc main_arg0)) shapeCasts_S2x6144x7424_S12288x7424 := by entry_read; rfl
theorem entry_1 (c : Dev nD) : V m c main_v1 = shapeCast S12288x1 (m ((c : Thread nD τ).loc main_arg1)) shapeCasts_S2x6144x1_S12288x1 := by entry_read; rfl
theorem entry_2 (c : Dev nD) : V m c main_v2 = shapeCast S1x27648 (m ((c : Thread nD τ).loc main_arg3)) shapeCasts_S27648_S1x27648 := by entry_read; rfl

variable (ρ : Dev nD → PrngReg)

/-- The run leaves the arguments as they were. -/
theorem args_kept (r : PUnit × MemSt nD τ sig (Elt Ideal)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c)⟩

/-- The run: the results are `scales` and `codes` of the arguments, reshaped, and the arguments are kept. -/
theorem run : θ_run defs (onTc (τ := τ) (main (F := Ideal))) (s₀ m ρ) (fun r => ∀ c : Dev nD,
    r.2.mem ((c.tc : Thread nD τ).loc main_v3_0)
        = scales (shapeCast S12288x7424 (m ((c : Thread nD τ).loc main_arg0)) shapeCasts_S2x6144x7424_S12288x7424) (m ((c : Thread nD τ).loc main_arg2))
          (shapeCast S12288x1 (m ((c : Thread nD τ).loc main_arg1)) shapeCasts_S2x6144x1_S12288x1) (shapeCast S1x27648 (m ((c : Thread nD τ).loc main_arg3)) shapeCasts_S27648_S1x27648)
      ∧ r.2.mem ((c.tc : Thread nD τ).loc main_v3_1)
        = codes (shapeCast S12288x7424 (m ((c : Thread nD τ).loc main_arg0)) shapeCasts_S2x6144x7424_S12288x7424) (m ((c : Thread nD τ).loc main_arg2))
          (shapeCast S12288x1 (m ((c : Thread nD τ).loc main_arg1)) shapeCasts_S2x6144x1_S12288x1) (shapeCast S1x27648 (m ((c : Thread nD τ).loc main_arg3)) shapeCasts_S27648_S1x27648)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨?_, ?_, args_kept m r h c⟩) (run_main m ρ)
  · rw [← entry_0, ← entry_1, ← entry_2, ← V_main_arg2 m c]
    exact ((h c).1 4).trans (final_4 m c)
  · rw [← entry_0, ← entry_1, ← entry_2, ← V_main_arg2 m c]
    exact ((h c).1 5).trans (final_5 m c)

end Cert.ReferenceIdeal.Value

end
-- ==== Proof.lean ====
/- The certificate's proof: the frames of the kernel, of its idealization and of the reference, and the equality of both results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.K.Frame
public import proofs.«01_k».proof.Proof.KI.Frame
public import proofs.«01_k».proof.Proof.Val.Final
public import proofs.«01_k».proof.Proof.Val.Reference
public import Idealize.ShloMosaic.Adequacy
public import Idealize.ShloMosaic.Init

@[expose] public section

noncomputable section

namespace Cert.Proof

open Idealize.ShloMosaic Idealize.SL.Sem

/-- The kernel and the reference leave the same scales and the same codes, from the same arguments. -/
theorem algebraic : Cert.algebraic_KernelIdeal_ReferenceIdeal (hKernelIdeal := Cert.KernelIdeal.Gen.facts) (hReferenceIdeal := Cert.ReferenceIdeal.Gen.facts) := by
  intro m g m' g' _ hargs
  refine ⟨_, _, Cert.KernelIdeal.Value.run m g, ?_⟩
  refine (θ_run _ _ _).mono (fun r h c => ?_) (Cert.ReferenceIdeal.Value.run m' g')
  obtain ⟨h0, h1, hk⟩ := h c
  obtain ⟨a0, a1, a2, a3⟩ := hargs c
  rw [a0, a1, a2, a3] at h0 h1
  exact ⟨h0, h1, hk⟩

/-- The claims, in the order in which they are certified. -/
theorem claim : Cert.Claim := ⟨Cert.Kernel.Gen.facts, Cert.KernelIdeal.Gen.facts, Cert.ReferenceIdeal.Gen.facts,
  fun m ρ _ => Cert.Kernel.Hand.frame_main m ρ, fun m ρ _ => Cert.KernelIdeal.Hand.frame_main m ρ,
  fun m ρ _ => Cert.ReferenceIdeal.Gen.frame m ρ, trivial, algebraic⟩

end Cert.Proof

end
